-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S4096x2048 : Shape := ⟨2, ![4096, 2048]⟩
abbrev S3x2048x1024 : Shape := ⟨3, ![3, 2048, 1024]⟩
abbrev S4 : Shape := ⟨1, ![4]⟩
abbrev S_ : Shape := ⟨0, ![]⟩
abbrev S1x2048x1024 : Shape := ⟨3, ![1, 2048, 1024]⟩
abbrev S2048x1024 : Shape := ⟨2, ![2048, 1024]⟩
abbrev S1024x1024 : Shape := ⟨2, ![1024, 1024]⟩
abbrev S2048x2048 : Shape := ⟨2, ![2048, 2048]⟩
abbrev S1x1024x1024 : Shape := ⟨3, ![1, 1024, 1024]⟩

abbrev nBuf : Space → Nat
  | .hbm => 6
  | .vmem => 8
  | .smem => 1
  | _ => 0

abbrev bufTy : (tb : Table) → Fin (tcTables nBuf tb) → BufTy
  | .hbm, ⟨0, _⟩ => ⟨S4096x1024, .fp8e4m3⟩
  | .hbm, ⟨1, _⟩ => ⟨S1024x2048, .fp8e4m3⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S4096x2048, .f32⟩
  | .local _ .vmem, ⟨0, _⟩ => ⟨S4096x1024, .fp8e4m3⟩
  | .local _ .vmem, ⟨1, _⟩ => ⟨S1024x2048, .fp8e4m3⟩
  | .local _ .vmem, ⟨2, _⟩ => ⟨S4096x2048, .f32⟩
  | .local _ .vmem, ⟨3, _⟩ => ⟨S3x2048x1024, .fp8e4m3⟩
  | .local _ .vmem, ⟨4, _⟩ => ⟨S3x2048x1024, .fp8e4m3⟩
  | .local _ .vmem, ⟨5, _⟩ => ⟨S1024x2048, .fp8e4m3⟩
  | .local _ .vmem, ⟨6, _⟩ => ⟨S1024x2048, .fp8e4m3⟩
  | .local _ .vmem, ⟨7, _⟩ => ⟨S1024x2048, .fp8e4m3⟩
  | .local _ .smem, ⟨0, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_13 : BitVec 32 := 1#32
  let v13 : BitVec 32 := Scalar.muli v7 c1_i32_13
  let v14 : BitVec 32 := Scalar.addi c0_i32_14 v13
  v14.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_22 : BitVec 32 := 1#32
  let v22 : BitVec 32 := Scalar.muli v5 c1_i32_22
  let v23 : BitVec 32 := Scalar.addi c0_i32_23 v22
  v23.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_29 : BitVec 32 := 1#32
  let v31 : BitVec 32 := Scalar.muli v7 c1_i32_29
  let v32 : BitVec 32 := Scalar.addi c0_i32_30 v31
  v32.toNat
def k0_dev6 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_33 : BitVec 32 := 1#32
  let v37 : BitVec 32 := Scalar.muli v5 c1_i32_33
  let v38 : BitVec 32 := Scalar.addi c0_i32_34 v37
  v38.toNat
def k0_dev7 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_92 : BitVec 32 := 1#32
  let v85 : BitVec 32 := Scalar.muli v7 c1_i32_92
  let v86 : BitVec 32 := Scalar.addi c0_i32_93 v85
  v86.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_102 : BitVec 32 := 1#32
  let v95 : BitVec 32 := Scalar.muli v5 c1_i32_102
  let v96 : BitVec 32 := Scalar.addi c0_i32_103 v95
  v96.toNat
def k0_dev9 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_110 : BitVec 32 := 1#32
  let v105 : BitVec 32 := Scalar.muli v7 c1_i32_110
  let v106 : BitVec 32 := Scalar.addi c0_i32_111 v105
  v106.toNat
def k0_dev10 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_117 : BitVec 32 := 1#32
  let v113 : BitVec 32 := Scalar.muli v5 c1_i32_117
  let v114 : BitVec 32 := Scalar.addi c0_i32_118 v113
  v114.toNat
def k0_dev11 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_213 : BitVec 32 := 1#32
  let v185 : BitVec 32 := Scalar.muli v7 c1_i32_213
  let v186 : BitVec 32 := Scalar.addi c0_i32_214 v185
  v186.toNat
def k0_dev12 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_223 : BitVec 32 := 1#32
  let v195 : BitVec 32 := Scalar.muli v5 c1_i32_223
  let v196 : BitVec 32 := Scalar.addi c0_i32_224 v195
  v196.toNat
def k0_dev13 (d0 : Dev nD) : Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_233 : BitVec 32 := 1#32
  let v205 : BitVec 32 := Scalar.muli v7 c1_i32_233
  let v206 : BitVec 32 := Scalar.addi c0_i32_234 v205
  v206.toNat
def k0_dev14 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_243 : BitVec 32 := 1#32
  let v215 : BitVec 32 := Scalar.muli v5 c1_i32_243
  let v216 : BitVec 32 := Scalar.addi c0_i32_244 v215
  v216.toNat
abbrev stage0_0 : Fin 1 → Memref sig .tc .vmem S4096x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Common.lean ====
/-
# The ring protocol: cells, contents, schedule, levels, debts

Four devices in a ring; device `c` has left neighbour `prv c` and right neighbour `nxt c`. Every device sends its top
half of `x` once round the ring to the right and its bottom half to the left; the weight blocks go one step both ways,
and half of each goes a second step. Twelve transfers a device, numbered by their order in the program; each has a
send cell on the sender and a receive cell on the receiver, one round and one duty each. The barrier cell has two
duties, one paid by each neighbour, who hands over with it the scratch buffers the transfers to it land in.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.ValueIdxCore
public import Idealize.ShloMosaic.Lib.Tactic

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

/-! ## The resource algebra: the pipeline library's copy and the protocol's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
theorem nxt_inj {c d : Dev nD} (h : nxt c = nxt d) : c = d := by rw [← prv_nxt c, h, prv_nxt]
theorem prv_inj {c d : Dev nD} (h : prv c = prv d) : c = d := by rw [← nxt_prv c, h, nxt_prv]

def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)
theorem dev9_eq (c : Dev nD) : (⟨k0_dev9 c, k0_dev9_lt c⟩ : Dev nD) = nxt c := Fin.ext (k0_dev9_eq c)
theorem dev10_eq (c : Dev nD) : (⟨k0_dev10 c, k0_dev10_lt c⟩ : Dev nD) = prv c := Fin.ext (k0_dev10_eq c)
theorem dev11_eq (c : Dev nD) : (⟨k0_dev11 c, k0_dev11_lt c⟩ : Dev nD) = nxt c := Fin.ext (k0_dev11_eq c)
theorem dev12_eq (c : Dev nD) : (⟨k0_dev12 c, k0_dev12_lt c⟩ : Dev nD) = prv c := Fin.ext (k0_dev12_eq c)
theorem dev13_eq (c : Dev nD) : (⟨k0_dev13 c, k0_dev13_lt c⟩ : Dev nD) = nxt c := Fin.ext (k0_dev13_eq c)
theorem dev14_eq (c : Dev nD) : (⟨k0_dev14 c, k0_dev14_lt c⟩ : Dev nD) = prv c := Fin.ext (k0_dev14_eq c)

/-! ## The memrefs -/

abbrev xM : Memref sig .tc .vmem S4096x1024 .fp8e4m3 := Memref.whole cc0_stg0_0
abbrev wM : Memref sig .tc .vmem S1024x2048 .fp8e4m3 := Memref.whole cc0_stg1_0
abbrev sM : Memref sig .tc .smem S1 .f32 := Memref.whole cc0_stg2_0
abbrev oM : Memref sig .tc .vmem S4096x2048 .f32 := Memref.whole cc0_stg3_0
/-- Where the top halves of `x` land, three slots; where the bottom halves land. -/
abbrev aM : Memref sig .tc .vmem S3x2048x1024 .fp8e4m3 := Memref.whole cc0_scratch0
abbrev bM : Memref sig .tc .vmem S3x2048x1024 .fp8e4m3 := Memref.whole cc0_scratch1
/-- The weights of the left neighbour, of the right neighbour, of the device opposite. -/
abbrev lM : Memref sig .tc .vmem S1024x2048 .fp8e4m3 := Memref.whole cc0_scratch2
abbrev rM : Memref sig .tc .vmem S1024x2048 .fp8e4m3 := Memref.whole cc0_scratch3
abbrev dM : Memref sig .tc .vmem S1024x2048 .fp8e4m3 := Memref.whole cc0_scratch4

/-! The windows the transfers read and write. -/

section Windows
variable (M3 : Memref sig .tc .vmem S3x2048x1024 .fp8e4m3) (M2 : Memref sig .tc .vmem S1024x2048 .fp8e4m3)
abbrev xTop : Memref sig .tc .vmem S2048x1024 .fp8e4m3 := xM.slice (Rect.unit (s := S4096x1024) ![0, 0] S2048x1024.size inb_S4096x1024_S2048x1024_0_0) (fun _ => rfl)
abbrev xBot : Memref sig .tc .vmem S2048x1024 .fp8e4m3 := xM.slice (Rect.unit (s := S4096x1024) ![2048, 0] S2048x1024.size inb_S4096x1024_S2048x1024_2048_0) (fun _ => rfl)
abbrev slot0 : Memref sig .tc .vmem S2048x1024 .fp8e4m3 := (M3.slice (Rect.unit (s := S3x2048x1024) ![0, 0, 0] S1x2048x1024.size inb_S3x2048x1024_S1x2048x1024_0_0_0) (fun _ => rfl)).squeeze S2048x1024 squeezes_S1x2048x1024_S2048x1024
abbrev slot1 : Memref sig .tc .vmem S2048x1024 .fp8e4m3 := (M3.slice (Rect.unit (s := S3x2048x1024) ![1, 0, 0] S1x2048x1024.size inb_S3x2048x1024_S1x2048x1024_1_0_0) (fun _ => rfl)).squeeze S2048x1024 squeezes_S1x2048x1024_S2048x1024
abbrev slot1A : Memref sig .tc .vmem S1024x1024 .fp8e4m3 := (M3.slice (Rect.unit (s := S3x2048x1024) ![1, 0, 0] S1x1024x1024.size inb_S3x2048x1024_S1x1024x1024_1_0_0) (fun _ => rfl)).squeeze S1024x1024 squeezes_S1x1024x1024_S1024x1024
abbrev slot1B : Memref sig .tc .vmem S1024x1024 .fp8e4m3 := (M3.slice (Rect.unit (s := S3x2048x1024) ![1, 1024, 0] S1x1024x1024.size inb_S3x2048x1024_S1x1024x1024_1_1024_0) (fun _ => rfl)).squeeze S1024x1024 squeezes_S1x1024x1024_S1024x1024
abbrev slot2A : Memref sig .tc .vmem S1024x1024 .fp8e4m3 := (M3.slice (Rect.unit (s := S3x2048x1024) ![2, 0, 0] S1x1024x1024.size inb_S3x2048x1024_S1x1024x1024_2_0_0) (fun _ => rfl)).squeeze S1024x1024 squeezes_S1x1024x1024_S1024x1024
abbrev slot2B : Memref sig .tc .vmem S1024x1024 .fp8e4m3 := (M3.slice (Rect.unit (s := S3x2048x1024) ![2, 1024, 0] S1x1024x1024.size inb_S3x2048x1024_S1x1024x1024_2_1024_0) (fun _ => rfl)).squeeze S1024x1024 squeezes_S1x1024x1024_S1024x1024
abbrev colL : Memref sig .tc .vmem S1024x1024 .fp8e4m3 := M2.slice (Rect.unit (s := S1024x2048) ![0, 0] S1024x1024.size inb_S1024x2048_S1024x1024_0_0) (fun _ => rfl)
abbrev colR : Memref sig .tc .vmem S1024x1024 .fp8e4m3 := M2.slice (Rect.unit (s := S1024x2048) ![0, 1024] S1024x1024.size inb_S1024x2048_S1024x1024_0_1024) (fun _ => rfl)
end Windows

/-! ## The cells -/

abbrev barS : Sem sig := (SemArray.scalar (sig.barrier 0 rfl) : Sems sig S_).sem

/-- The 24 DMA semaphores of the kernel: the pool's numbers 4 to 27. -/
abbrev qS (k : Fin 24) : DmaSem sig := ⟨4 + k.val, by have := k.isLt; show 4 + k.val < 28; omega⟩

abbrev barCell (c : Dev nD) : GSem nD τ sig := ((c : Thread nD τ), .reg barS)
abbrev qCell (c : Dev nD) (k : Fin 24) : GSem nD τ sig := ((c : Thread nD τ), .dma (qS k))
abbrev osem : Fin 24 → SemLoc sig := fun k => .dma (qS k)

theorem sem9_0 : ((cc0_scratch5.slice (Rect.unit (s := S4) ![0] S1.size inb_S4_S1_0)).squeeze S_ squeezes_S1_S_).sem = qS 0 := rfl
theorem sem14_3 : ((cc0_scratch10.slice (Rect.unit (s := S4) ![3] S1.size inb_S4_S1_3)).squeeze S_ squeezes_S1_S_).sem = qS 23 := rfl

/-- What one transfer into each kind of window credits. -/
def NX : ℕ := RefSig.tileCredit S2048x1024 .fp8e4m3
def NW : ℕ := RefSig.tileCredit S1024x2048 .fp8e4m3
def NH : ℕ := RefSig.tileCredit S1024x1024 .fp8e4m3
theorem credit_x {sp : Space} (v : Memref sig .tc sp S2048x1024 .fp8e4m3) : v.view.dmaCredit = NX := rfl
theorem credit_w {sp : Space} (v : Memref sig .tc sp S1024x2048 .fp8e4m3) : v.view.dmaCredit = NW := rfl
theorem credit_h {sp : Space} (v : Memref sig .tc sp S1024x1024 .fp8e4m3) : v.view.dmaCredit = NH := rfl

end Cert.RingK
-- ==== Proof.Contents.lean ====
/-
# What the buffers hold, and the windows as sets of elements
-/
module

public import proofs.«01_k».proof.Proof.Common
public import Idealize.ShloMosaic.Lib.ValueLayout

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-- What every device's block of `x`, and of `w`, holds. -/
abbrev XC (F : FTy → Type) : Type := Dev nD → (cc0_stg0_0 : Ref sig .tc).ty.Contents (Elt F)
abbrev WC (F : FTy → Type) : Type := Dev nD → (cc0_stg1_0 : Ref sig .tc).ty.Contents (Elt F)

section Contents
variable (X : XC F) (Wt : WC F) (c : Dev nD)

/-- Slot `j` of the buffer the top halves land in: the top half of the device `j + 1` steps to the left. -/
def aF : (cc0_scratch0 : Ref sig .tc).ty.Contents (Elt F) :=
  fun (i : S3x2048x1024.Idx) => X (prv^[(i 0).val + 1] c) (ix2 (n0 := 4096) (n1 := 1024) ⟨(i 1).val, lt_trans (i 1).isLt (by decide)⟩ (i 2))
/-- Slot `j` of the buffer the bottom halves land in: the bottom half of the device `j + 1` steps to the right. -/
def bF : (cc0_scratch1 : Ref sig .tc).ty.Contents (Elt F) :=
  fun (i : S3x2048x1024.Idx) => X (nxt^[(i 0).val + 1] c)
    (ix2 (n0 := 4096) (n1 := 1024) ⟨2048 + (i 1).val, Nat.add_lt_add_left (m := 2048) (i 1).isLt 2048⟩ (i 2))
abbrev lF : (cc0_scratch2 : Ref sig .tc).ty.Contents (Elt F) := Wt (prv c)
abbrev rF : (cc0_scratch3 : Ref sig .tc).ty.Contents (Elt F) := Wt (nxt c)
abbrev dF : (cc0_scratch4 : Ref sig .tc).ty.Contents (Elt F) := Wt (prv (prv c))
end Contents

theorem prv_prv (c : Dev nD) : prv (prv c) = nxt (nxt c) := by revert c; decide

/-! ## What each transfer carries -/

section Coordinates

/-- The index a squeezed block's index stands for: the unit axis put back. -/
theorem sq_big (h : S2048x1024.numel = S1x2048x1024.numel) (j : S2048x1024.Idx) :
    Shape.reshapeEquiv h j = ix3 (n0 := 1) (n1 := 2048) (n2 := 1024) ⟨0, Nat.one_pos⟩ (j 0) (j 1) := by
  have e : j = ix2 (n0 := 2048) (n1 := 1024) (j 0) (j 1) := eq_ix2 j
  generalize j 0 = a at e ⊢
  generalize j 1 = b at e ⊢
  subst e
  exact ValueIdx.reshapeEquiv_ix2_1ab h a b
theorem sq_small (h : S1024x1024.numel = S1x1024x1024.numel) (j : S1024x1024.Idx) :
    Shape.reshapeEquiv h j = ix3 (n0 := 1) (n1 := 1024) (n2 := 1024) ⟨0, Nat.one_pos⟩ (j 0) (j 1) := by
  have e : j = ix2 (n0 := 1024) (n1 := 1024) (j 0) (j 1) := eq_ix2 j
  generalize j 0 = a at e ⊢
  generalize j 1 = b at e ⊢
  subst e
  exact ValueIdx.reshapeEquiv_ix2_1ab h a b

variable (M3 : Memref sig .tc .vmem S3x2048x1024 .fp8e4m3) (M2 : Memref sig .tc .vmem S1024x2048 .fp8e4m3) (j : S2048x1024.Idx) (j' : S1024x1024.Idx)

theorem emb_slot0 : (slot0 M3).view.emb j = M3.view.emb (ix3 (n0 := 3) (n1 := 2048) (n2 := 1024) ⟨0, by decide⟩ (j 0) (j 1) : S3x2048x1024.Idx) := by
  show M3.view.emb ((Rect.unit (s := S3x2048x1024) ![0, 0, 0] S1x2048x1024.size inb_S3x2048x1024_S1x2048x1024_0_0_0).emb (Shape.reshapeEquiv _ j)) = _
  rw [sq_big]
  refine congrArg M3.view.emb (funext fun a => Fin.ext ?_)
  match a with
  | ⟨0, _⟩ => rfl
  | ⟨1, _⟩ => show 0 + 1 * (j 0).val = _; rw [Nat.one_mul]; exact Nat.zero_add _
  | ⟨2, _⟩ => show 0 + 1 * (j 1).val = (j 1).val; omega
theorem emb_slot1 : (slot1 M3).view.emb j = M3.view.emb (ix3 (n0 := 3) (n1 := 2048) (n2 := 1024) ⟨1, by decide⟩ (j 0) (j 1) : S3x2048x1024.Idx) := by
  show M3.view.emb ((Rect.unit (s := S3x2048x1024) ![1, 0, 0] S1x2048x1024.size inb_S3x2048x1024_S1x2048x1024_1_0_0).emb (Shape.reshapeEquiv _ j)) = _
  rw [sq_big]
  refine congrArg M3.view.emb (funext fun a => Fin.ext ?_)
  match a with
  | ⟨0, _⟩ => rfl
  | ⟨1, _⟩ => show 0 + 1 * (j 0).val = _; rw [Nat.one_mul]; exact Nat.zero_add _
  | ⟨2, _⟩ => show 0 + 1 * (j 1).val = (j 1).val; omega
theorem emb_slot1A : (slot1A M3).view.emb j' = M3.view.emb (ix3 (n0 := 3) (n1 := 2048) (n2 := 1024) ⟨1, by decide⟩ ⟨(j' 0).val, lt_trans (j' 0).isLt (by decide)⟩ (j' 1) : S3x2048x1024.Idx) := by
  show M3.view.emb ((Rect.unit (s := S3x2048x1024) ![1, 0, 0] S1x1024x1024.size inb_S3x2048x1024_S1x1024x1024_1_0_0).emb (Shape.reshapeEquiv _ j')) = _
  rw [sq_small]
  refine congrArg M3.view.emb (funext fun a => Fin.ext ?_)
  match a with
  | ⟨0, _⟩ => rfl
  | ⟨1, _⟩ => show 0 + 1 * (j' 0).val = _; rw [Nat.one_mul]; exact Nat.zero_add _
  | ⟨2, _⟩ => show 0 + 1 * (j' 1).val = (j' 1).val; omega
theorem emb_slot1B : (slot1B M3).view.emb j' = M3.view.emb (ix3 (n0 := 3) (n1 := 2048) (n2 := 1024) ⟨1, by decide⟩ ⟨1024 + (j' 0).val, Nat.lt_of_lt_of_le (Nat.add_lt_add_left (m := 1024) (j' 0).isLt 1024) (by decide)⟩ (j' 1) : S3x2048x1024.Idx) := by
  show M3.view.emb ((Rect.unit (s := S3x2048x1024) ![1, 1024, 0] S1x1024x1024.size inb_S3x2048x1024_S1x1024x1024_1_1024_0).emb (Shape.reshapeEquiv _ j')) = _
  rw [sq_small]
  refine congrArg M3.view.emb (funext fun a => Fin.ext ?_)
  match a with
  | ⟨0, _⟩ => rfl
  | ⟨1, _⟩ => show 1024 + 1 * (j' 0).val = _; rw [Nat.one_mul]
  | ⟨2, _⟩ => show 0 + 1 * (j' 1).val = (j' 1).val; omega
theorem emb_slot2A : (slot2A M3).view.emb j' = M3.view.emb (ix3 (n0 := 3) (n1 := 2048) (n2 := 1024) ⟨2, by decide⟩ ⟨(j' 0).val, lt_trans (j' 0).isLt (by decide)⟩ (j' 1) : S3x2048x1024.Idx) := by
  show M3.view.emb ((Rect.unit (s := S3x2048x1024) ![2, 0, 0] S1x1024x1024.size inb_S3x2048x1024_S1x1024x1024_2_0_0).emb (Shape.reshapeEquiv _ j')) = _
  rw [sq_small]
  refine congrArg M3.view.emb (funext fun a => Fin.ext ?_)
  match a with
  | ⟨0, _⟩ => rfl
  | ⟨1, _⟩ => show 0 + 1 * (j' 0).val = _; rw [Nat.one_mul]; exact Nat.zero_add _
  | ⟨2, _⟩ => show 0 + 1 * (j' 1).val = (j' 1).val; omega
theorem emb_slot2B : (slot2B M3).view.emb j' = M3.view.emb (ix3 (n0 := 3) (n1 := 2048) (n2 := 1024) ⟨2, by decide⟩ ⟨1024 + (j' 0).val, Nat.lt_of_lt_of_le (Nat.add_lt_add_left (m := 1024) (j' 0).isLt 1024) (by decide)⟩ (j' 1) : S3x2048x1024.Idx) := by
  show M3.view.emb ((Rect.unit (s := S3x2048x1024) ![2, 1024, 0] S1x1024x1024.size inb_S3x2048x1024_S1x1024x1024_2_1024_0).emb (Shape.reshapeEquiv _ j')) = _
  rw [sq_small]
  refine congrArg M3.view.emb (funext fun a => Fin.ext ?_)
  match a with
  | ⟨0, _⟩ => rfl
  | ⟨1, _⟩ => show 1024 + 1 * (j' 0).val = _; rw [Nat.one_mul]
  | ⟨2, _⟩ => show 0 + 1 * (j' 1).val = (j' 1).val; omega

end Coordinates

section Carries
variable (X : XC F) (Wt : WC F) (c : Dev nD)

theorem aF_apply (k : Fin 3) (r : Fin 2048) (q : Fin 1024) :
    aF X c (ix3 k r q) = X (prv^[k.val + 1] c) (ix2 (n0 := 4096) (n1 := 1024) ⟨r.val, lt_trans r.isLt (by decide)⟩ q) := rfl
theorem bF_apply (k : Fin 3) (r : Fin 2048) (q : Fin 1024) :
    bF X c (ix3 k r q) = X (nxt^[k.val + 1] c) (ix2 (n0 := 4096) (n1 := 1024) ⟨2048 + r.val, Nat.add_lt_add_left (m := 2048) r.isLt 2048⟩ q) := rfl

theorem aF_next (k : Fin 3) (k' : Fin 3) (h : k'.val = k.val + 1) (r : Fin 2048) (q : Fin 1024) :
    aF X (nxt c) (ix3 k' r q) = aF X c (ix3 k r q) := by
  rw [aF_apply, aF_apply, h, Function.iterate_succ_apply (n := k.val + 1), prv_nxt]
theorem bF_next (k : Fin 3) (k' : Fin 3) (h : k'.val = k.val + 1) (r : Fin 2048) (q : Fin 1024) :
    bF X (prv c) (ix3 k' r q) = bF X c (ix3 k r q) := by
  rw [bF_apply, bF_apply, h, Function.iterate_succ_apply (n := k.val + 1), nxt_prv]

theorem read_xTop : (slot0 aM).view.read (Elt F) (aF X (nxt c)) = xTop.view.read (Elt F) (X c) := by
  funext j
  show aF X (nxt c) ((slot0 aM).view.emb j) = X c (xTop.view.emb j)
  rw [emb_slot0]
  show X (prv (nxt c)) _ = _
  rw [prv_nxt]
  refine congrArg (X c) (funext fun a => Fin.ext ?_)
  match a with
  | ⟨0, _⟩ => show (j 0).val = 0 + 1 * (j 0).val; omega
  | ⟨1, _⟩ => show (j 1).val = 0 + 1 * (j 1).val; omega
theorem read_xBot : (slot0 bM).view.read (Elt F) (bF X (prv c)) = xBot.view.read (Elt F) (X c) := by
  funext j
  show bF X (prv c) ((slot0 bM).view.emb j) = X c (xBot.view.emb j)
  rw [emb_slot0]
  show X (nxt (prv c)) _ = _
  rw [nxt_prv]
  refine congrArg (X c) (funext fun a => Fin.ext ?_)
  match a with
  | ⟨0, _⟩ => show 2048 + (j 0).val = 2048 + 1 * (j 0).val; omega
  | ⟨1, _⟩ => show (j 1).val = 0 + 1 * (j 1).val; omega
theorem read_a_slot1 : (slot1 aM).view.read (Elt F) (aF X (nxt c)) = (slot0 aM).view.read (Elt F) (aF X c) := by
  funext j
  show aF X (nxt c) ((slot1 aM).view.emb j) = aF X c ((slot0 aM).view.emb j)
  rw [emb_slot1, emb_slot0]
  exact aF_next X c _ _ rfl _ _
theorem read_a_slot2A : (slot2A aM).view.read (Elt F) (aF X (nxt c)) = (slot1A aM).view.read (Elt F) (aF X c) := by
  funext j
  show aF X (nxt c) ((slot2A aM).view.emb j) = aF X c ((slot1A aM).view.emb j)
  rw [emb_slot2A, emb_slot1A]
  exact aF_next X c _ _ rfl _ _
theorem read_a_slot2B : (slot2B aM).view.read (Elt F) (aF X (nxt c)) = (slot1B aM).view.read (Elt F) (aF X c) := by
  funext j
  show aF X (nxt c) ((slot2B aM).view.emb j) = aF X c ((slot1B aM).view.emb j)
  rw [emb_slot2B, emb_slot1B]
  exact aF_next X c _ _ rfl _ _
theorem read_b_slot1 : (slot1 bM).view.read (Elt F) (bF X (prv c)) = (slot0 bM).view.read (Elt F) (bF X c) := by
  funext j
  show bF X (prv c) ((slot1 bM).view.emb j) = bF X c ((slot0 bM).view.emb j)
  rw [emb_slot1, emb_slot0]
  exact bF_next X c _ _ rfl _ _
theorem read_b_slot2A : (slot2A bM).view.read (Elt F) (bF X (prv c)) = (slot1A bM).view.read (Elt F) (bF X c) := by
  funext j
  show bF X (prv c) ((slot2A bM).view.emb j) = bF X c ((slot1A bM).view.emb j)
  rw [emb_slot2A, emb_slot1A]
  exact bF_next X c _ _ rfl _ _
theorem read_b_slot2B : (slot2B bM).view.read (Elt F) (bF X (prv c)) = (slot1B bM).view.read (Elt F) (bF X c) := by
  funext j
  show bF X (prv c) ((slot2B bM).view.emb j) = bF X c ((slot1B bM).view.emb j)
  rw [emb_slot2B, emb_slot1B]
  exact bF_next X c _ _ rfl _ _
theorem read_wL : lM.view.read (Elt F) (lF Wt (nxt c)) = wM.view.read (Elt F) (Wt c) := by
  show Wt (prv (nxt c)) = Wt c
  rw [prv_nxt]
theorem read_wR : rM.view.read (Elt F) (rF Wt (prv c)) = wM.view.read (Elt F) (Wt c) := by
  show Wt (nxt (prv c)) = Wt c
  rw [nxt_prv]
theorem read_dL : (colL dM).view.read (Elt F) (dF Wt (nxt c)) = (colL lM).view.read (Elt F) (lF Wt c) := by
  show (fun j => Wt (prv (prv (nxt c))) ((colL dM).view.emb j)) = fun j => Wt (prv c) ((colL lM).view.emb j)
  rw [prv_nxt]
  rfl
theorem read_dR : (colR dM).view.read (Elt F) (dF Wt (prv c)) = (colR rM).view.read (Elt F) (rF Wt c) := by
  show (fun j => Wt (prv (prv (prv c))) ((colR dM).view.emb j)) = fun j => Wt (nxt c) ((colR rM).view.emb j)
  rw [prv_prv, nxt_prv]
  rfl

end Carries

/-! ## The windows as sets of elements -/

section Sets

theorem mem_slot0_a (i : S3x2048x1024.Idx) : i ∈ (slot0 aM).view.set ↔ (i 0).val = 0 := by
  rw [show (slot0 aM).view.set = (Rect.unit (s := S3x2048x1024) ![0, 0, 0] S1x2048x1024.size inb_S3x2048x1024_S1x2048x1024_0_0_0).set from
    (View.set_reshape _ _).trans (View.set_slice_whole _ _), Rect.mem_set_unit]
  have h1 : (i 1).val < 2048 := (i 1).isLt
  have h2 : (i 2).val < 1024 := (i 2).isLt
  constructor
  · intro h
    have g0 : 0 ≤ (i 0).val ∧ (i 0).val < 0 + 1 := h 0
    have g1 : 0 ≤ (i 1).val ∧ (i 1).val < 0 + 2048 := h 1
    omega
  · intro h a
    match a with
    | ⟨0, _⟩ => show 0 ≤ (i 0).val ∧ (i 0).val < 0 + 1; omega
    | ⟨1, _⟩ => show 0 ≤ (i 1).val ∧ (i 1).val < 0 + 2048; omega
    | ⟨2, _⟩ => show 0 ≤ (i 2).val ∧ (i 2).val < 0 + 1024; omega
theorem mem_slot1_a (i : S3x2048x1024.Idx) : i ∈ (slot1 aM).view.set ↔ (i 0).val = 1 := by
  rw [show (slot1 aM).view.set = (Rect.unit (s := S3x2048x1024) ![1, 0, 0] S1x2048x1024.size inb_S3x2048x1024_S1x2048x1024_1_0_0).set from
    (View.set_reshape _ _).trans (View.set_slice_whole _ _), Rect.mem_set_unit]
  have h1 : (i 1).val < 2048 := (i 1).isLt
  have h2 : (i 2).val < 1024 := (i 2).isLt
  constructor
  · intro h
    have g0 : 1 ≤ (i 0).val ∧ (i 0).val < 1 + 1 := h 0
    have g1 : 0 ≤ (i 1).val ∧ (i 1).val < 0 + 2048 := h 1
    omega
  · intro h a
    match a with
    | ⟨0, _⟩ => show 1 ≤ (i 0).val ∧ (i 0).val < 1 + 1; omega
    | ⟨1, _⟩ => show 0 ≤ (i 1).val ∧ (i 1).val < 0 + 2048; omega
    | ⟨2, _⟩ => show 0 ≤ (i 2).val ∧ (i 2).val < 0 + 1024; omega
theorem mem_slot1A_a (i : S3x2048x1024.Idx) : i ∈ (slot1A aM).view.set ↔ (i 0).val = 1 ∧ (i 1).val < 1024 := by
  rw [show (slot1A aM).view.set = (Rect.unit (s := S3x2048x1024) ![1, 0, 0] S1x1024x1024.size inb_S3x2048x1024_S1x1024x1024_1_0_0).set from
    (View.set_reshape _ _).trans (View.set_slice_whole _ _), Rect.mem_set_unit]
  have h1 : (i 1).val < 2048 := (i 1).isLt
  have h2 : (i 2).val < 1024 := (i 2).isLt
  constructor
  · intro h
    have g0 : 1 ≤ (i 0).val ∧ (i 0).val < 1 + 1 := h 0
    have g1 : 0 ≤ (i 1).val ∧ (i 1).val < 0 + 1024 := h 1
    omega
  · intro h a
    match a with
    | ⟨0, _⟩ => show 1 ≤ (i 0).val ∧ (i 0).val < 1 + 1; omega
    | ⟨1, _⟩ => show 0 ≤ (i 1).val ∧ (i 1).val < 0 + 1024; omega
    | ⟨2, _⟩ => show 0 ≤ (i 2).val ∧ (i 2).val < 0 + 1024; omega
theorem mem_slot1B_a (i : S3x2048x1024.Idx) : i ∈ (slot1B aM).view.set ↔ (i 0).val = 1 ∧ 1024 ≤ (i 1).val := by
  rw [show (slot1B aM).view.set = (Rect.unit (s := S3x2048x1024) ![1, 1024, 0] S1x1024x1024.size inb_S3x2048x1024_S1x1024x1024_1_1024_0).set from
    (View.set_reshape _ _).trans (View.set_slice_whole _ _), Rect.mem_set_unit]
  have h1 : (i 1).val < 2048 := (i 1).isLt
  have h2 : (i 2).val < 1024 := (i 2).isLt
  constructor
  · intro h
    have g0 : 1 ≤ (i 0).val ∧ (i 0).val < 1 + 1 := h 0
    have g1 : 1024 ≤ (i 1).val ∧ (i 1).val < 1024 + 1024 := h 1
    omega
  · intro h a
    match a with
    | ⟨0, _⟩ => show 1 ≤ (i 0).val ∧ (i 0).val < 1 + 1; omega
    | ⟨1, _⟩ => show 1024 ≤ (i 1).val ∧ (i 1).val < 1024 + 1024; omega
    | ⟨2, _⟩ => show 0 ≤ (i 2).val ∧ (i 2).val < 0 + 1024; omega
theorem mem_slot2A_a (i : S3x2048x1024.Idx) : i ∈ (slot2A aM).view.set ↔ (i 0).val = 2 ∧ (i 1).val < 1024 := by
  rw [show (slot2A aM).view.set = (Rect.unit (s := S3x2048x1024) ![2, 0, 0] S1x1024x1024.size inb_S3x2048x1024_S1x1024x1024_2_0_0).set from
    (View.set_reshape _ _).trans (View.set_slice_whole _ _), Rect.mem_set_unit]
  have h1 : (i 1).val < 2048 := (i 1).isLt
  have h2 : (i 2).val < 1024 := (i 2).isLt
  constructor
  · intro h
    have g0 : 2 ≤ (i 0).val ∧ (i 0).val < 2 + 1 := h 0
    have g1 : 0 ≤ (i 1).val ∧ (i 1).val < 0 + 1024 := h 1
    omega
  · intro h a
    match a with
    | ⟨0, _⟩ => show 2 ≤ (i 0).val ∧ (i 0).val < 2 + 1; omega
    | ⟨1, _⟩ => show 0 ≤ (i 1).val ∧ (i 1).val < 0 + 1024; omega
    | ⟨2, _⟩ => show 0 ≤ (i 2).val ∧ (i 2).val < 0 + 1024; omega
theorem mem_slot2B_a (i : S3x2048x1024.Idx) : i ∈ (slot2B aM).view.set ↔ (i 0).val = 2 ∧ 1024 ≤ (i 1).val := by
  rw [show (slot2B aM).view.set = (Rect.unit (s := S3x2048x1024) ![2, 1024, 0] S1x1024x1024.size inb_S3x2048x1024_S1x1024x1024_2_1024_0).set from
    (View.set_reshape _ _).trans (View.set_slice_whole _ _), Rect.mem_set_unit]
  have h1 : (i 1).val < 2048 := (i 1).isLt
  have h2 : (i 2).val < 1024 := (i 2).isLt
  constructor
  · intro h
    have g0 : 2 ≤ (i 0).val ∧ (i 0).val < 2 + 1 := h 0
    have g1 : 1024 ≤ (i 1).val ∧ (i 1).val < 1024 + 1024 := h 1
    omega
  · intro h a
    match a with
    | ⟨0, _⟩ => show 2 ≤ (i 0).val ∧ (i 0).val < 2 + 1; omega
    | ⟨1, _⟩ => show 1024 ≤ (i 1).val ∧ (i 1).val < 1024 + 1024; omega
    | ⟨2, _⟩ => show 0 ≤ (i 2).val ∧ (i 2).val < 0 + 1024; omega
theorem mem_slot0_b (i : S3x2048x1024.Idx) : i ∈ (slot0 bM).view.set ↔ (i 0).val = 0 := by
  rw [show (slot0 bM).view.set = (Rect.unit (s := S3x2048x1024) ![0, 0, 0] S1x2048x1024.size inb_S3x2048x1024_S1x2048x1024_0_0_0).set from
    (View.set_reshape _ _).trans (View.set_slice_whole _ _), Rect.mem_set_unit]
  have h1 : (i 1).val < 2048 := (i 1).isLt
  have h2 : (i 2).val < 1024 := (i 2).isLt
  constructor
  · intro h
    have g0 : 0 ≤ (i 0).val ∧ (i 0).val < 0 + 1 := h 0
    have g1 : 0 ≤ (i 1).val ∧ (i 1).val < 0 + 2048 := h 1
    omega
  · intro h a
    match a with
    | ⟨0, _⟩ => show 0 ≤ (i 0).val ∧ (i 0).val < 0 + 1; omega
    | ⟨1, _⟩ => show 0 ≤ (i 1).val ∧ (i 1).val < 0 + 2048; omega
    | ⟨2, _⟩ => show 0 ≤ (i 2).val ∧ (i 2).val < 0 + 1024; omega
theorem mem_slot1_b (i : S3x2048x1024.Idx) : i ∈ (slot1 bM).view.set ↔ (i 0).val = 1 := by
  rw [show (slot1 bM).view.set = (Rect.unit (s := S3x2048x1024) ![1, 0, 0] S1x2048x1024.size inb_S3x2048x1024_S1x2048x1024_1_0_0).set from
    (View.set_reshape _ _).trans (View.set_slice_whole _ _), Rect.mem_set_unit]
  have h1 : (i 1).val < 2048 := (i 1).isLt
  have h2 : (i 2).val < 1024 := (i 2).isLt
  constructor
  · intro h
    have g0 : 1 ≤ (i 0).val ∧ (i 0).val < 1 + 1 := h 0
    have g1 : 0 ≤ (i 1).val ∧ (i 1).val < 0 + 2048 := h 1
    omega
  · intro h a
    match a with
    | ⟨0, _⟩ => show 1 ≤ (i 0).val ∧ (i 0).val < 1 + 1; omega
    | ⟨1, _⟩ => show 0 ≤ (i 1).val ∧ (i 1).val < 0 + 2048; omega
    | ⟨2, _⟩ => show 0 ≤ (i 2).val ∧ (i 2).val < 0 + 1024; omega
theorem mem_slot1A_b (i : S3x2048x1024.Idx) : i ∈ (slot1A bM).view.set ↔ (i 0).val = 1 ∧ (i 1).val < 1024 := by
  rw [show (slot1A bM).view.set = (Rect.unit (s := S3x2048x1024) ![1, 0, 0] S1x1024x1024.size inb_S3x2048x1024_S1x1024x1024_1_0_0).set from
    (View.set_reshape _ _).trans (View.set_slice_whole _ _), Rect.mem_set_unit]
  have h1 : (i 1).val < 2048 := (i 1).isLt
  have h2 : (i 2).val < 1024 := (i 2).isLt
  constructor
  · intro h
    have g0 : 1 ≤ (i 0).val ∧ (i 0).val < 1 + 1 := h 0
    have g1 : 0 ≤ (i 1).val ∧ (i 1).val < 0 + 1024 := h 1
    omega
  · intro h a
    match a with
    | ⟨0, _⟩ => show 1 ≤ (i 0).val ∧ (i 0).val < 1 + 1; omega
    | ⟨1, _⟩ => show 0 ≤ (i 1).val ∧ (i 1).val < 0 + 1024; omega
    | ⟨2, _⟩ => show 0 ≤ (i 2).val ∧ (i 2).val < 0 + 1024; omega
theorem mem_slot1B_b (i : S3x2048x1024.Idx) : i ∈ (slot1B bM).view.set ↔ (i 0).val = 1 ∧ 1024 ≤ (i 1).val := by
  rw [show (slot1B bM).view.set = (Rect.unit (s := S3x2048x1024) ![1, 1024, 0] S1x1024x1024.size inb_S3x2048x1024_S1x1024x1024_1_1024_0).set from
    (View.set_reshape _ _).trans (View.set_slice_whole _ _), Rect.mem_set_unit]
  have h1 : (i 1).val < 2048 := (i 1).isLt
  have h2 : (i 2).val < 1024 := (i 2).isLt
  constructor
  · intro h
    have g0 : 1 ≤ (i 0).val ∧ (i 0).val < 1 + 1 := h 0
    have g1 : 1024 ≤ (i 1).val ∧ (i 1).val < 1024 + 1024 := h 1
    omega
  · intro h a
    match a with
    | ⟨0, _⟩ => show 1 ≤ (i 0).val ∧ (i 0).val < 1 + 1; omega
    | ⟨1, _⟩ => show 1024 ≤ (i 1).val ∧ (i 1).val < 1024 + 1024; omega
    | ⟨2, _⟩ => show 0 ≤ (i 2).val ∧ (i 2).val < 0 + 1024; omega
theorem mem_slot2A_b (i : S3x2048x1024.Idx) : i ∈ (slot2A bM).view.set ↔ (i 0).val = 2 ∧ (i 1).val < 1024 := by
  rw [show (slot2A bM).view.set = (Rect.unit (s := S3x2048x1024) ![2, 0, 0] S1x1024x1024.size inb_S3x2048x1024_S1x1024x1024_2_0_0).set from
    (View.set_reshape _ _).trans (View.set_slice_whole _ _), Rect.mem_set_unit]
  have h1 : (i 1).val < 2048 := (i 1).isLt
  have h2 : (i 2).val < 1024 := (i 2).isLt
  constructor
  · intro h
    have g0 : 2 ≤ (i 0).val ∧ (i 0).val < 2 + 1 := h 0
    have g1 : 0 ≤ (i 1).val ∧ (i 1).val < 0 + 1024 := h 1
    omega
  · intro h a
    match a with
    | ⟨0, _⟩ => show 2 ≤ (i 0).val ∧ (i 0).val < 2 + 1; omega
    | ⟨1, _⟩ => show 0 ≤ (i 1).val ∧ (i 1).val < 0 + 1024; omega
    | ⟨2, _⟩ => show 0 ≤ (i 2).val ∧ (i 2).val < 0 + 1024; omega
theorem mem_slot2B_b (i : S3x2048x1024.Idx) : i ∈ (slot2B bM).view.set ↔ (i 0).val = 2 ∧ 1024 ≤ (i 1).val := by
  rw [show (slot2B bM).view.set = (Rect.unit (s := S3x2048x1024) ![2, 1024, 0] S1x1024x1024.size inb_S3x2048x1024_S1x1024x1024_2_1024_0).set from
    (View.set_reshape _ _).trans (View.set_slice_whole _ _), Rect.mem_set_unit]
  have h1 : (i 1).val < 2048 := (i 1).isLt
  have h2 : (i 2).val < 1024 := (i 2).isLt
  constructor
  · intro h
    have g0 : 2 ≤ (i 0).val ∧ (i 0).val < 2 + 1 := h 0
    have g1 : 1024 ≤ (i 1).val ∧ (i 1).val < 1024 + 1024 := h 1
    omega
  · intro h a
    match a with
    | ⟨0, _⟩ => show 2 ≤ (i 0).val ∧ (i 0).val < 2 + 1; omega
    | ⟨1, _⟩ => show 1024 ≤ (i 1).val ∧ (i 1).val < 1024 + 1024; omega
    | ⟨2, _⟩ => show 0 ≤ (i 2).val ∧ (i 2).val < 0 + 1024; omega
theorem mem_xTop (i : S4096x1024.Idx) : i ∈ xTop.view.set ↔ (i 0).val < 2048 := by
  rw [show xTop.view.set = (Rect.unit (s := S4096x1024) ![0, 0] S2048x1024.size inb_S4096x1024_S2048x1024_0_0).set from
    View.set_slice_whole _ _, Rect.mem_set_unit]
  have h0 : (i 0).val < 4096 := (i 0).isLt
  have h1 : (i 1).val < 1024 := (i 1).isLt
  constructor
  · intro h
    have g0 : 0 ≤ (i 0).val ∧ (i 0).val < 0 + 2048 := h 0
    have g1 : 0 ≤ (i 1).val ∧ (i 1).val < 0 + 1024 := h 1
    omega
  · intro h a
    match a with
    | ⟨0, _⟩ => show 0 ≤ (i 0).val ∧ (i 0).val < 0 + 2048; omega
    | ⟨1, _⟩ => show 0 ≤ (i 1).val ∧ (i 1).val < 0 + 1024; omega
theorem mem_xBot (i : S4096x1024.Idx) : i ∈ xBot.view.set ↔ 2048 ≤ (i 0).val := by
  rw [show xBot.view.set = (Rect.unit (s := S4096x1024) ![2048, 0] S2048x1024.size inb_S4096x1024_S2048x1024_2048_0).set from
    View.set_slice_whole _ _, Rect.mem_set_unit]
  have h0 : (i 0).val < 4096 := (i 0).isLt
  have h1 : (i 1).val < 1024 := (i 1).isLt
  constructor
  · intro h
    have g0 : 2048 ≤ (i 0).val ∧ (i 0).val < 2048 + 2048 := h 0
    have g1 : 0 ≤ (i 1).val ∧ (i 1).val < 0 + 1024 := h 1
    omega
  · intro h a
    match a with
    | ⟨0, _⟩ => show 2048 ≤ (i 0).val ∧ (i 0).val < 2048 + 2048; omega
    | ⟨1, _⟩ => show 0 ≤ (i 1).val ∧ (i 1).val < 0 + 1024; omega
theorem mem_colL_l (i : S1024x2048.Idx) : i ∈ (colL lM).view.set ↔ (i 1).val < 1024 := by
  rw [show (colL lM).view.set = (Rect.unit (s := S1024x2048) ![0, 0] S1024x1024.size inb_S1024x2048_S1024x1024_0_0).set from
    View.set_slice_whole _ _, Rect.mem_set_unit]
  have h0 : (i 0).val < 1024 := (i 0).isLt
  have h1 : (i 1).val < 2048 := (i 1).isLt
  constructor
  · intro h
    have g0 : 0 ≤ (i 0).val ∧ (i 0).val < 0 + 1024 := h 0
    have g1 : 0 ≤ (i 1).val ∧ (i 1).val < 0 + 1024 := h 1
    omega
  · intro h a
    match a with
    | ⟨0, _⟩ => show 0 ≤ (i 0).val ∧ (i 0).val < 0 + 1024; omega
    | ⟨1, _⟩ => show 0 ≤ (i 1).val ∧ (i 1).val < 0 + 1024; omega
theorem mem_colR_l (i : S1024x2048.Idx) : i ∈ (colR lM).view.set ↔ 1024 ≤ (i 1).val := by
  rw [show (colR lM).view.set = (Rect.unit (s := S1024x2048) ![0, 1024] S1024x1024.size inb_S1024x2048_S1024x1024_0_1024).set from
    View.set_slice_whole _ _, Rect.mem_set_unit]
  have h0 : (i 0).val < 1024 := (i 0).isLt
  have h1 : (i 1).val < 2048 := (i 1).isLt
  constructor
  · intro h
    have g0 : 0 ≤ (i 0).val ∧ (i 0).val < 0 + 1024 := h 0
    have g1 : 1024 ≤ (i 1).val ∧ (i 1).val < 1024 + 1024 := h 1
    omega
  · intro h a
    match a with
    | ⟨0, _⟩ => show 0 ≤ (i 0).val ∧ (i 0).val < 0 + 1024; omega
    | ⟨1, _⟩ => show 1024 ≤ (i 1).val ∧ (i 1).val < 1024 + 1024; omega
theorem mem_colL_r (i : S1024x2048.Idx) : i ∈ (colL rM).view.set ↔ (i 1).val < 1024 := by
  rw [show (colL rM).view.set = (Rect.unit (s := S1024x2048) ![0, 0] S1024x1024.size inb_S1024x2048_S1024x1024_0_0).set from
    View.set_slice_whole _ _, Rect.mem_set_unit]
  have h0 : (i 0).val < 1024 := (i 0).isLt
  have h1 : (i 1).val < 2048 := (i 1).isLt
  constructor
  · intro h
    have g0 : 0 ≤ (i 0).val ∧ (i 0).val < 0 + 1024 := h 0
    have g1 : 0 ≤ (i 1).val ∧ (i 1).val < 0 + 1024 := h 1
    omega
  · intro h a
    match a with
    | ⟨0, _⟩ => show 0 ≤ (i 0).val ∧ (i 0).val < 0 + 1024; omega
    | ⟨1, _⟩ => show 0 ≤ (i 1).val ∧ (i 1).val < 0 + 1024; omega
theorem mem_colR_r (i : S1024x2048.Idx) : i ∈ (colR rM).view.set ↔ 1024 ≤ (i 1).val := by
  rw [show (colR rM).view.set = (Rect.unit (s := S1024x2048) ![0, 1024] S1024x1024.size inb_S1024x2048_S1024x1024_0_1024).set from
    View.set_slice_whole _ _, Rect.mem_set_unit]
  have h0 : (i 0).val < 1024 := (i 0).isLt
  have h1 : (i 1).val < 2048 := (i 1).isLt
  constructor
  · intro h
    have g0 : 0 ≤ (i 0).val ∧ (i 0).val < 0 + 1024 := h 0
    have g1 : 1024 ≤ (i 1).val ∧ (i 1).val < 1024 + 1024 := h 1
    omega
  · intro h a
    match a with
    | ⟨0, _⟩ => show 0 ≤ (i 0).val ∧ (i 0).val < 0 + 1024; omega
    | ⟨1, _⟩ => show 1024 ≤ (i 1).val ∧ (i 1).val < 1024 + 1024; omega
theorem mem_colL_d (i : S1024x2048.Idx) : i ∈ (colL dM).view.set ↔ (i 1).val < 1024 := by
  rw [show (colL dM).view.set = (Rect.unit (s := S1024x2048) ![0, 0] S1024x1024.size inb_S1024x2048_S1024x1024_0_0).set from
    View.set_slice_whole _ _, Rect.mem_set_unit]
  have h0 : (i 0).val < 1024 := (i 0).isLt
  have h1 : (i 1).val < 2048 := (i 1).isLt
  constructor
  · intro h
    have g0 : 0 ≤ (i 0).val ∧ (i 0).val < 0 + 1024 := h 0
    have g1 : 0 ≤ (i 1).val ∧ (i 1).val < 0 + 1024 := h 1
    omega
  · intro h a
    match a with
    | ⟨0, _⟩ => show 0 ≤ (i 0).val ∧ (i 0).val < 0 + 1024; omega
    | ⟨1, _⟩ => show 0 ≤ (i 1).val ∧ (i 1).val < 0 + 1024; omega
theorem mem_colR_d (i : S1024x2048.Idx) : i ∈ (colR dM).view.set ↔ 1024 ≤ (i 1).val := by
  rw [show (colR dM).view.set = (Rect.unit (s := S1024x2048) ![0, 1024] S1024x1024.size inb_S1024x2048_S1024x1024_0_1024).set from
    View.set_slice_whole _ _, Rect.mem_set_unit]
  have h0 : (i 0).val < 1024 := (i 0).isLt
  have h1 : (i 1).val < 2048 := (i 1).isLt
  constructor
  · intro h
    have g0 : 0 ≤ (i 0).val ∧ (i 0).val < 0 + 1024 := h 0
    have g1 : 1024 ≤ (i 1).val ∧ (i 1).val < 1024 + 1024 := h 1
    omega
  · intro h a
    match a with
    | ⟨0, _⟩ => show 0 ≤ (i 0).val ∧ (i 0).val < 0 + 1024; omega
    | ⟨1, _⟩ => show 1024 ≤ (i 1).val ∧ (i 1).val < 1024 + 1024; omega

end Sets

end Cert.RingK
-- ==== Proof.Protocol.lean ====
/-
# The pieces of memory that change hands, and the schedule of the cells
-/
module

public import proofs.«01_k».proof.Proof.Contents

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-! ## Points-tos of windows -/

/-- Device `c`'s window `M`, at share `q` and contents `f`. -/
abbrev pts {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

/-- The half of a buffer kept for the loads, and the half lent to the transfers. -/
abbrev qL : PosShare TreeShare := fullShare.left
abbrev qR : PosShare TreeShare := fullShare.right
abbrev qRL : PosShare TreeShare := fullShare.right.left
abbrev qRR : PosShare TreeShare := fullShare.right.right

section Cut
variable {ℓ : Loc nD τ sig} {K I J A B : Finset (Idx ℓ)} {q : PosShare TreeShare} {f : Buf (Elt F) ℓ}

theorem cut_two (h : ∀ i, i ∈ K ↔ i ∈ I ∨ i ∈ J) (hd : ∀ i, i ∈ I → i ∈ J → False) :
    (ℓ ↦[K]{q} f : sProp 𝕄) ⊣⊢ iprop((ℓ ↦[I]{q} f) ∗ ℓ ↦[J]{q} f) := by
  have e : K = I ∪ J := Finset.ext fun i => (h i).trans Finset.mem_union.symm
  rw [e]
  exact pointsTo_union (Finset.disjoint_left.mpr fun i h₁ h₂ => hd i h₁ h₂)

theorem cut_four (h : ∀ i, i ∈ K ↔ i ∈ I ∨ i ∈ J ∨ i ∈ A ∨ i ∈ B) (d₁ : ∀ i, i ∈ I → i ∈ J ∨ i ∈ A ∨ i ∈ B → False)
    (d₂ : ∀ i, i ∈ J → i ∈ A ∨ i ∈ B → False) (d₃ : ∀ i, i ∈ A → i ∈ B → False) :
    (ℓ ↦[K]{q} f : sProp 𝕄) ⊣⊢ iprop((ℓ ↦[I]{q} f) ∗ (ℓ ↦[J]{q} f) ∗ (ℓ ↦[A]{q} f) ∗ ℓ ↦[B]{q} f) := by
  have s₁ : (ℓ ↦[K]{q} f : sProp 𝕄) ⊣⊢ iprop((ℓ ↦[I]{q} f) ∗ ℓ ↦[J ∪ (A ∪ B)]{q} f) :=
    cut_two (fun i => by rw [h, Finset.mem_union, Finset.mem_union]) (fun i hi hj => d₁ i hi (by rwa [Finset.mem_union, Finset.mem_union] at hj))
  have s₂ : (ℓ ↦[J ∪ (A ∪ B)]{q} f : sProp 𝕄) ⊣⊢ iprop((ℓ ↦[J]{q} f) ∗ ℓ ↦[A ∪ B]{q} f) :=
    cut_two (fun i => Finset.mem_union) (fun i hi hj => d₂ i hi (Finset.mem_union.mp hj))
  have s₃ : (ℓ ↦[A ∪ B]{q} f : sProp 𝕄) ⊣⊢ iprop((ℓ ↦[A]{q} f) ∗ ℓ ↦[B]{q} f) := cut_two (fun i => Finset.mem_union) d₃
  constructor
  · exact s₁.1.trans (sep_mono_right (s₂.1.trans (sep_mono_right s₃.1)))
  · exact (sep_mono_right ((sep_mono_right s₃.2).trans s₂.2)).trans s₁.2
end Cut

section Split
variable (c : Dev nD) (q : PosShare TreeShare)

theorem split_x (f : (cc0_stg0_0 : Ref sig .tc).ty.Contents (Elt F)) :
    (pts xM c q f : sProp 𝕄) ⊣⊢ iprop(pts xTop c q f ∗ pts xBot c q f) :=
  cut_two (fun (i : S4096x1024.Idx) => by
      rw [mem_xTop, mem_xBot, show xM.view.set = Finset.univ from View.set_whole _]
      simp only [Finset.mem_univ, true_iff]; omega)
    (fun (i : S4096x1024.Idx) h₁ h₂ => by rw [mem_xTop] at h₁; rw [mem_xBot] at h₂; omega)

theorem split_l (f : (cc0_scratch2 : Ref sig .tc).ty.Contents (Elt F)) :
    (pts lM c q f : sProp 𝕄) ⊣⊢ iprop(pts (colL lM) c q f ∗ pts (colR lM) c q f) :=
  cut_two (fun (i : S1024x2048.Idx) => by
      rw [mem_colL_l, mem_colR_l, show lM.view.set = Finset.univ from View.set_whole _]
      simp only [Finset.mem_univ, true_iff]; omega)
    (fun (i : S1024x2048.Idx) h₁ h₂ => by rw [mem_colL_l] at h₁; rw [mem_colR_l] at h₂; omega)
theorem split_r (f : (cc0_scratch3 : Ref sig .tc).ty.Contents (Elt F)) :
    (pts rM c q f : sProp 𝕄) ⊣⊢ iprop(pts (colL rM) c q f ∗ pts (colR rM) c q f) :=
  cut_two (fun (i : S1024x2048.Idx) => by
      rw [mem_colL_r, mem_colR_r, show rM.view.set = Finset.univ from View.set_whole _]
      simp only [Finset.mem_univ, true_iff]; omega)
    (fun (i : S1024x2048.Idx) h₁ h₂ => by rw [mem_colL_r] at h₁; rw [mem_colR_r] at h₂; omega)
theorem split_d (f : (cc0_scratch4 : Ref sig .tc).ty.Contents (Elt F)) :
    (pts dM c q f : sProp 𝕄) ⊣⊢ iprop(pts (colL dM) c q f ∗ pts (colR dM) c q f) :=
  cut_two (fun (i : S1024x2048.Idx) => by
      rw [mem_colL_d, mem_colR_d, show dM.view.set = Finset.univ from View.set_whole _]
      simp only [Finset.mem_univ, true_iff]; omega)
    (fun (i : S1024x2048.Idx) h₁ h₂ => by rw [mem_colL_d] at h₁; rw [mem_colR_d] at h₂; omega)

theorem split_a (f : (cc0_scratch0 : Ref sig .tc).ty.Contents (Elt F)) :
    (pts aM c q f : sProp 𝕄) ⊣⊢ iprop(pts (slot0 aM) c q f ∗ pts (slot1 aM) c q f ∗ pts (slot2A aM) c q f ∗ pts (slot2B aM) c q f) :=
  cut_four (fun (i : S3x2048x1024.Idx) => by
      have h : (i 0).val < 3 := (i 0).isLt
      rw [mem_slot0_a, mem_slot1_a, mem_slot2A_a, mem_slot2B_a, show aM.view.set = Finset.univ from View.set_whole _]
      simp only [Finset.mem_univ, true_iff]; omega)
    (fun (i : S3x2048x1024.Idx) h₁ h₂ => by rw [mem_slot0_a] at h₁; rw [mem_slot1_a, mem_slot2A_a, mem_slot2B_a] at h₂; omega)
    (fun (i : S3x2048x1024.Idx) h₁ h₂ => by rw [mem_slot1_a] at h₁; rw [mem_slot2A_a, mem_slot2B_a] at h₂; omega)
    (fun (i : S3x2048x1024.Idx) h₁ h₂ => by rw [mem_slot2A_a] at h₁; rw [mem_slot2B_a] at h₂; omega)
theorem split_b (f : (cc0_scratch1 : Ref sig .tc).ty.Contents (Elt F)) :
    (pts bM c q f : sProp 𝕄) ⊣⊢ iprop(pts (slot0 bM) c q f ∗ pts (slot1 bM) c q f ∗ pts (slot2A bM) c q f ∗ pts (slot2B bM) c q f) :=
  cut_four (fun (i : S3x2048x1024.Idx) => by
      have h : (i 0).val < 3 := (i 0).isLt
      rw [mem_slot0_b, mem_slot1_b, mem_slot2A_b, mem_slot2B_b, show bM.view.set = Finset.univ from View.set_whole _]
      simp only [Finset.mem_univ, true_iff]; omega)
    (fun (i : S3x2048x1024.Idx) h₁ h₂ => by rw [mem_slot0_b] at h₁; rw [mem_slot1_b, mem_slot2A_b, mem_slot2B_b] at h₂; omega)
    (fun (i : S3x2048x1024.Idx) h₁ h₂ => by rw [mem_slot1_b] at h₁; rw [mem_slot2A_b, mem_slot2B_b] at h₂; omega)
    (fun (i : S3x2048x1024.Idx) h₁ h₂ => by rw [mem_slot2A_b] at h₁; rw [mem_slot2B_b] at h₂; omega)
theorem split_a1 (f : (cc0_scratch0 : Ref sig .tc).ty.Contents (Elt F)) :
    (pts (slot1 aM) c q f : sProp 𝕄) ⊣⊢ iprop(pts (slot1A aM) c q f ∗ pts (slot1B aM) c q f) :=
  cut_two (fun (i : S3x2048x1024.Idx) => by rw [mem_slot1_a, mem_slot1A_a, mem_slot1B_a]; omega)
    (fun (i : S3x2048x1024.Idx) h₁ h₂ => by rw [mem_slot1A_a] at h₁; rw [mem_slot1B_a] at h₂; omega)
theorem split_b1 (f : (cc0_scratch1 : Ref sig .tc).ty.Contents (Elt F)) :
    (pts (slot1 bM) c q f : sProp 𝕄) ⊣⊢ iprop(pts (slot1A bM) c q f ∗ pts (slot1B bM) c q f) :=
  cut_two (fun (i : S3x2048x1024.Idx) => by rw [mem_slot1_b, mem_slot1A_b, mem_slot1B_b]; omega)
    (fun (i : S3x2048x1024.Idx) h₁ h₂ => by rw [mem_slot1A_b] at h₁; rw [mem_slot1B_b] at h₂; omega)

end Split

/-- Any share in two. -/
theorem share_two {ℓ : Loc nD τ sig} {I : Finset (Idx ℓ)} {f : Buf (Elt F) ℓ} (q : PosShare TreeShare) :
    (ℓ ↦[I]{q} f : sProp 𝕄) ⊣⊢ iprop((ℓ ↦[I]{q.left} f) ∗ ℓ ↦[I]{q.right} f) :=
  pointsTo_share (PosShare.mem_left_op_right q)

/-- What a transfer leaves in its destination is the contents named for it, when these read the same through the two windows. -/
theorem landed {sp sp' : Space} {s : Shape} {e : EltTy} (src : Memref sig .tc sp s e) (dst : Memref sig .tc sp' s e) (c c' : Dev nD)
    (fs : Buf (Elt F) (src.view.loc (c : Thread nD τ))) (fd g : Buf (Elt F) (dst.view.loc (c' : Thread nD τ)))
    (h : dst.view.read (Elt F) g = src.view.read (Elt F) fs) :
    (dst.view.loc (c' : Thread nD τ) ↦[dst.view.set]{fullShare} (dst.view.write (Elt F) fd (src.view.read (Elt F) fs) Finset.univ) : sProp 𝕄)
      ⊢ pts dst c' fullShare g := by
  rw [← h]
  refine Entails.of_eq (pointsTo_congr fun i hi => ?_)
  rw [View.write_read_eq_piecewise]
  exact Finset.piecewise_eq_of_mem _ _ _ hi

/-! ## The schedule -/

section Payloads
variable (X : XC F) (Wt : WC F) (c : Dev nD)

/-- All of a device's DMA cells have reached their first round. -/
def opened (c : Dev nD) : sProp 𝕄 := bigSep (Finset.univ : Finset (Fin 24)) fun k => reached ER (qCell c k) 0

/-- Paid to the barrier cell of `c` by its right neighbour: the buffers transfers to the right from `c` land in. -/
def barT : sProp 𝕄 :=
  iprop((∃ f : (cc0_scratch0 : Ref sig .tc).ty.Contents (Elt F), pts aM (nxt c) fullShare f) ∗ (∃ f : (cc0_scratch2 : Ref sig .tc).ty.Contents (Elt F), pts lM (nxt c) fullShare f) ∗ (∃ f : (cc0_scratch4 : Ref sig .tc).ty.Contents (Elt F), pts (colL dM) (nxt c) fullShare f) ∗ opened (nxt c))
/-- Paid by its left neighbour: the buffers transfers to the left from `c` land in. -/
def barF : sProp 𝕄 :=
  iprop((∃ f : (cc0_scratch1 : Ref sig .tc).ty.Contents (Elt F), pts bM (prv c) fullShare f) ∗ (∃ f : (cc0_scratch3 : Ref sig .tc).ty.Contents (Elt F), pts rM (prv c) fullShare f) ∗ (∃ f : (cc0_scratch4 : Ref sig .tc).ty.Contents (Elt F), pts (colR dM) (prv c) fullShare f) ∗ opened (prv c))

/-- What the round of the DMA cell with pool number `n` delivers: a send cell the share lent of the source, a receive
    cell the destination at what landed. -/
def payA : ℕ → sProp 𝕄
  | 0 => pts xTop c qR (X c)
  | 1 => pts (slot0 aM) c qR (aF X c)
  | 2 => pts (slot1A aM) c qR (aF X c)
  | 3 => pts (slot1B aM) c qR (aF X c)
  | 4 => pts (slot0 aM) c fullShare (aF X c)
  | 5 => pts (slot1 aM) c fullShare (aF X c)
  | 6 => pts (slot2A aM) c fullShare (aF X c)
  | 7 => pts (slot2B aM) c fullShare (aF X c)
  | _ => iprop(emp)
def payB : ℕ → sProp 𝕄
  | 0 => pts xBot c qR (X c)
  | 1 => pts (slot0 bM) c qR (bF X c)
  | 2 => pts (slot1A bM) c qR (bF X c)
  | 3 => pts (slot1B bM) c qR (bF X c)
  | 4 => pts (slot0 bM) c fullShare (bF X c)
  | 5 => pts (slot1 bM) c fullShare (bF X c)
  | 6 => pts (slot2A bM) c fullShare (bF X c)
  | 7 => pts (slot2B bM) c fullShare (bF X c)
  | _ => iprop(emp)
def payW : ℕ → sProp 𝕄
  | 0 => pts wM c qRL (Wt c)
  | 1 => pts wM c qRR (Wt c)
  | 2 => pts (colL lM) c qR (lF Wt c)
  | 3 => pts (colR rM) c qR (rF Wt c)
  | 4 => pts lM c fullShare (lF Wt c)
  | 5 => pts rM c fullShare (rF Wt c)
  | 6 => pts (colL dM) c fullShare (dF Wt c)
  | 7 => pts (colR dM) c fullShare (dF Wt c)
  | _ => iprop(emp)
def payQ (n : ℕ) : sProp 𝕄 :=
  if n < 12 then payA X c (n - 4) else if n < 20 then payB X c (n - 12) else payW Wt c (n - 20)

/-- What a transfer on that cell credits. -/
def amtQ : ℕ → ℕ
  | 4 | 5 | 8 | 9 | 12 | 13 | 16 | 17 => NX
  | 20 | 21 | 24 | 25 => NW
  | _ => NH

theorem amt_0 : amtQ (4 + ((0 : Fin 24) : ℕ)) = NX := rfl
theorem amt_1 : amtQ (4 + ((1 : Fin 24) : ℕ)) = NX := rfl
theorem amt_2 : amtQ (4 + ((2 : Fin 24) : ℕ)) = NH := rfl
theorem amt_3 : amtQ (4 + ((3 : Fin 24) : ℕ)) = NH := rfl
theorem amt_4 : amtQ (4 + ((4 : Fin 24) : ℕ)) = NX := rfl
theorem amt_5 : amtQ (4 + ((5 : Fin 24) : ℕ)) = NX := rfl
theorem amt_6 : amtQ (4 + ((6 : Fin 24) : ℕ)) = NH := rfl
theorem amt_7 : amtQ (4 + ((7 : Fin 24) : ℕ)) = NH := rfl
theorem amt_8 : amtQ (4 + ((8 : Fin 24) : ℕ)) = NX := rfl
theorem amt_9 : amtQ (4 + ((9 : Fin 24) : ℕ)) = NX := rfl
theorem amt_10 : amtQ (4 + ((10 : Fin 24) : ℕ)) = NH := rfl
theorem amt_11 : amtQ (4 + ((11 : Fin 24) : ℕ)) = NH := rfl
theorem amt_12 : amtQ (4 + ((12 : Fin 24) : ℕ)) = NX := rfl
theorem amt_13 : amtQ (4 + ((13 : Fin 24) : ℕ)) = NX := rfl
theorem amt_14 : amtQ (4 + ((14 : Fin 24) : ℕ)) = NH := rfl
theorem amt_15 : amtQ (4 + ((15 : Fin 24) : ℕ)) = NH := rfl
theorem amt_16 : amtQ (4 + ((16 : Fin 24) : ℕ)) = NW := rfl
theorem amt_17 : amtQ (4 + ((17 : Fin 24) : ℕ)) = NW := rfl
theorem amt_18 : amtQ (4 + ((18 : Fin 24) : ℕ)) = NH := rfl
theorem amt_19 : amtQ (4 + ((19 : Fin 24) : ℕ)) = NH := rfl
theorem amt_20 : amtQ (4 + ((20 : Fin 24) : ℕ)) = NW := rfl
theorem amt_21 : amtQ (4 + ((21 : Fin 24) : ℕ)) = NW := rfl
theorem amt_22 : amtQ (4 + ((22 : Fin 24) : ℕ)) = NH := rfl
theorem amt_23 : amtQ (4 + ((23 : Fin 24) : ℕ)) = NH := rfl

theorem amtQ_pos (n : ℕ) : 0 < amtQ n := by
  unfold amtQ
  split
  all_goals first | exact RefSig.tileCredit_pos S2048x1024 .fp8e4m3 (by decide) | exact RefSig.tileCredit_pos S1024x2048 .fp8e4m3 (by decide) | exact RefSig.tileCredit_pos S1024x1024 .fp8e4m3 (by decide)

def dutiesOf : SemLoc sig → Finset Bool
  | .reg _ => Finset.univ
  | .dma _ => {false}

def Rd : Rounds.Schedule (GSem nD τ sig) Bool 𝕄 where
  duties g r := if r = 0 then dutiesOf g.2 else ∅
  unitless _ := False
  amount g _ _ := match g.2 with
    | .reg _ => 1
    | .dma q => amtQ q.val
  payload g _ d := match g.2 with
    | .reg _ => if d then barT g.1.1 else barF g.1.1
    | .dma q => payQ X Wt g.1.1 q.val
  amount_pos g _ _ _ := by
    dsimp only
    split
    · exact Nat.one_pos
    · exact amtQ_pos _

instance payQ_storable (n : ℕ) : BI.Storable (upEmb : UEmb _ 𝕄) (payQ X Wt c n) := by
  unfold payQ
  split
  · unfold payA; split <;> infer_instance
  · split
    · unfold payB; split <;> infer_instance
    · unfold payW; split <;> infer_instance

instance Rd_payload_storable (g : GSem nD τ sig) (r : ℕ) (d : Bool) :
    BI.Storable (upEmb : UEmb _ 𝕄) ((Rd X Wt).payload g r d) := by
  obtain ⟨t, s⟩ := g
  cases s with
  | reg s =>
    cases d
    · show BI.Storable upEmb (barF t.1)
      unfold barF opened; infer_instance
    · show BI.Storable upEmb (barT t.1)
      unfold barT opened; infer_instance
  | dma q => exact payQ_storable X Wt t.1 q.val

theorem duties_later (g : GSem nD τ sig) : ∀ r, 1 ≤ r → (Rd X Wt).duties g r = ∅ :=
  fun r hr => if_neg (by omega)

theorem duties_bar : (Rd X Wt).duties (barCell c) 0 = Finset.univ := rfl
theorem duties_q (k : Fin 24) : (Rd X Wt).duties (qCell c k) 0 = {false} := rfl
theorem mem_bar (d : Bool) : d ∈ (Rd X Wt).duties (barCell c) 0 := Finset.mem_univ d
theorem mem_q (k : Fin 24) : false ∈ (Rd X Wt).duties (qCell c k) 0 := Finset.mem_singleton_self _

theorem expect_bar : (Rd X Wt).expect (barCell c) 0 = 2 := by
  unfold Schedule.expect Schedule.amountOf
  show ∑ _d ∈ (Finset.univ : Finset Bool), 1 = 2
  rfl
theorem expect_q (k : Fin 24) : (Rd X Wt).expect (qCell c k) 0 = amtQ (4 + k.val) := by
  unfold Schedule.expect Schedule.amountOf
  rw [duties_q, Finset.sum_singleton]
  rfl
theorem rest_bar : bigSep ((Rd X Wt).duties (barCell c) 0 \ ∅) (fun d => (Rd X Wt).payload (barCell c) 0 d) = iprop(barF c ∗ barT c) := by
  rw [Finset.sdiff_empty, duties_bar, bigSep_univ_eq_bigSepL [false, true] (by decide) (by decide), bigSepL_cons_cons, bigSepL_singleton]
  rfl
theorem rest_q (k : Fin 24) : bigSep ((Rd X Wt).duties (qCell c k) 0 \ ∅) (fun d => (Rd X Wt).payload (qCell c k) 0 d) = payQ X Wt c (4 + k.val) := by
  rw [Finset.sdiff_empty, duties_q, bigSep_singleton]
  rfl

end Payloads

end Cert.RingK
-- ==== Proof.Steps.lean ====
/-
# Levels, debts, and the two steps the body repeats: a transfer to a neighbour and a wait
-/
module

public import proofs.«01_k».proof.Proof.Protocol

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-! ## The twelve transfers in program order -/

/-- The number of the receive cell of transfer `n` (even: to the right, odd: to the left). -/
def recvIx : ℕ → Fin 24
  | 0 => 4 | 1 => 12 | 2 => 20 | 3 => 21 | 4 => 5 | 5 => 13 | 6 => 22 | 7 => 23 | 8 => 6 | 9 => 14 | 10 => 7 | _ => 15
/-- The number of its send cell. -/
def sendIx : ℕ → Fin 24
  | 0 => 0 | 1 => 8 | 2 => 16 | 3 => 17 | 4 => 1 | 5 => 9 | 6 => 18 | 7 => 19 | 8 => 2 | 9 => 10 | 10 => 3 | _ => 11
def tgt (c : Dev nD) (n : ℕ) : Dev nD := if n % 2 = 0 then nxt c else prv c

/-- What device `c` still owes when `m` of its transfers are not yet started. -/
def debt (c : Dev nD) : ℕ → CellTallies nD τ sig Unit
  | 0 => 0
  | m + 1 => debt c m + tallyAt (qCell (tgt c (11 - m)) (recvIx (11 - m))) () (amtQ (4 + (recvIx (11 - m)).val))

/-- At launch: all twelve transfers and the two barrier signals. -/
def O₀ (c : Dev nD) : CellTallies nD τ sig Unit :=
  debt c 12 + tallyAt (barCell (nxt c)) () 1 + tallyAt (barCell (prv c)) () 1

/-! ## Levels -/

def L (g : GSem nD τ sig) : Finset Unit := if g.1.2 = .tc then {()} else ∅
/-- Receive cells by the step of the ring they belong to, the barrier below them, send and staging cells at the bottom. -/
def lvQ : ℕ → ℕ
  | 8 | 16 | 24 | 25 => 2
  | 9 | 17 | 26 | 27 => 3
  | 10 | 11 | 18 | 19 => 4
  | _ => 0
def lvS : SemLoc sig → ℕ
  | .reg _ => 1
  | .dma q => lvQ q.val
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem debt_pos {c : Dev nD} {m : ℕ} {g : GSem nD τ sig} {u : Unit} (h : 0 < debt c m g u) :
    ∃ j, j < m ∧ g = qCell (tgt c (11 - j)) (recvIx (11 - j)) := by
  induction m with
  | zero => exact absurd h (Nat.lt_irrefl 0)
  | succ m ih =>
    have h' : 0 < debt c m g u + tallyAt (qCell (tgt c (11 - m)) (recvIx (11 - m))) () (amtQ (4 + (recvIx (11 - m)).val)) g u := h
    rcases Nat.add_pos_iff_pos_or_pos.mp h' with h' | h'
    · obtain ⟨j, hj, e⟩ := ih h'
      exact ⟨j, Nat.lt_succ_of_lt hj, e⟩
    · rw [tallyAt_apply] at h'
      split at h'
      · next hg => exact ⟨m, Nat.lt_succ_self m, hg.1⟩
      · exact absurd h' (Nat.lt_irrefl 0)

theorem mayWait_debt (c : Dev nD) (s : SemLoc sig) (m : ℕ) (hm : ∀ j, j < m → lvS s < lvQ (4 + (recvIx (11 - j)).val)) :
    (levAts L lv : sProp 𝕄) ⊢ MayWait (c : Thread nD τ) s () (debt c m) :=
  MayOwe.of_cut (L := L) (lev := lv) (lvS s) (fun p hp => by rw [Finset.mem_singleton.mp hp, L_tc]; exact Finset.mem_singleton_self _)
    (fun g u hg => by
      obtain ⟨j, hj, rfl⟩ := debt_pos hg
      rw [L_tc]; exact Finset.mem_singleton_self _)
    (fun p hp => by rw [Finset.mem_singleton.mp hp]; exact le_rfl)
    (fun g u hg => by
      obtain ⟨j, hj, rfl⟩ := debt_pos hg
      exact hm j hj)

/-! ## Ghost state -/

section Ghost
variable (X : XC F) (Wt : WC F) (K : GSem nD τ sig → ℕ) (c : Dev nD)

/-- Every cell's invariant, and every barrier cell at its first round. -/
def recs : sProp 𝕄 :=
  iprop((bigSep (Finset.univ : Finset (Dev nD × Fin 24)) fun p => cellInv ER (Rd X Wt) (K (qCell p.1 p.2)) (qCell p.1 p.2))
    ∗ (bigSep (Finset.univ : Finset (Dev nD)) fun d => cellInv ER (Rd X Wt) (K (barCell d)) (barCell d))
    ∗ bigSep (Finset.univ : Finset (Dev nD)) fun d => reached ER (barCell d) 0)

instance recs_persistent : BI.Persistent (recs X Wt K : sProp 𝕄) := by unfold recs; infer_instance
instance opened_persistent : BI.Persistent (opened c : sProp 𝕄) := by unfold opened; infer_instance

theorem recs_q (d : Dev nD) (k : Fin 24) : (recs X Wt K : sProp 𝕄) ⊢ cellInv ER (Rd X Wt) (K (qCell d k)) (qCell d k) := by
  unfold recs
  iintro ⟨H, -, -⟩
  have h : (bigSep Finset.univ (fun p : Dev nD × Fin 24 => cellInv ER (Rd X Wt) (K (qCell p.1 p.2)) (qCell p.1 p.2)) : sProp 𝕄) ⊢ cellInv ER (Rd X Wt) (K (qCell d k)) (qCell d k) := bigSep_elim (Finset.mem_univ (d, k))
  iapply h $$ H
theorem recs_bar (d : Dev nD) : (recs X Wt K : sProp 𝕄) ⊢ cellInv ER (Rd X Wt) (K (barCell d)) (barCell d) := by
  unfold recs
  iintro ⟨-, H, -⟩
  have h : (bigSep Finset.univ (fun d : Dev nD => cellInv ER (Rd X Wt) (K (barCell d)) (barCell d)) : sProp 𝕄) ⊢ cellInv ER (Rd X Wt) (K (barCell d)) (barCell d) := bigSep_elim (Finset.mem_univ d)
  iapply h $$ H
theorem recs_reached (d : Dev nD) : (recs X Wt K : sProp 𝕄) ⊢ reached ER (barCell d) 0 := by
  unfold recs
  iintro ⟨-, -, H⟩
  have h : (bigSep Finset.univ (fun d : Dev nD => reached ER (barCell d) 0) : sProp 𝕄) ⊢ reached ER (barCell d) 0 := bigSep_elim (Finset.mem_univ d)
  iapply h $$ H
theorem opened_q (k : Fin 24) : (opened c : sProp 𝕄) ⊢ reached ER (qCell c k) 0 := by
  unfold opened
  exact bigSep_elim (Φ := fun k : Fin 24 => reached ER (qCell c k) 0) (Finset.mem_univ k)

/-- What device `c` needs to start transfer `n`: both duties' tokens and its own position on the send cell. -/
def sndP (n : ℕ) : sProp 𝕄 :=
  iprop(dutyTok ER (qCell c (sendIx n)) 0 false ∗ dutyTok ER (qCell (tgt c n) (recvIx n)) 0 false ∗ atPos ER (qCell c (sendIx n)) 0 ∅ 0)
/-- What it needs to wait on its cell `k`. -/
def rcvP (k : Fin 24) : sProp 𝕄 :=
  iprop(cred (tallyAt (qCell c k) () (amtQ (4 + k.val))) ∗ atPos ER (qCell c k) 0 ∅ 0)
/-- A cell done with. -/
def done (k : Fin 24) : sProp 𝕄 := atPos ER (qCell c k) 1 ∅ 0
/-- What it owes, whatever it has waited for. -/
def owesE (O : CellTallies nD τ sig Unit) : sProp 𝕄 := iprop(∃ W, owes (c : Thread nD τ) O W)

end Ghost

/-! ## The steps -/

section Steps
variable (X : XC F) (Wt : WC F) (K : GSem nD τ sig → ℕ) (c : Dev nD)

/-- Transfer `n` to the neighbour it goes to. -/
theorem step_send {α : Type} {Q : α → sProp 𝕄} {sp sp' : Space} {s : Shape} {e : EltTy} {src : Memref sig .tc sp s e} {dst : Memref sig .tc sp' s e}
    (n m : ℕ) (hm : n = 11 - m) {c' : Dev nD} (hc : c' = tgt c n) {d : Dev nD} (hd : d = c') {sS sR : DmaSem sig} (hsS : sS = qS (sendIx n)) (hsR : sR = qS (recvIx n))
    {hsc : dst.view.ref.isScScratch = false}
    {hsrc : src.view.WordExact} {hdst : dst.view.WordExact}
    {hsem : DmaTarget.Typed sp (.dma sR) (.remote (Dev.tc d : Thread nD τ) dst (.dma sS) hsc)}
    {k : PUnit → Prog (TpuEff nD τ sig (Elt F) Λ₀ .tc) α} (q : PosShare TreeShare)
    (fs : Buf (Elt F) (src.view.loc (c : Thread nD τ))) (fd g : Buf (Elt F) (dst.view.loc (c' : Thread nD τ)))
    (hg : dst.view.read (Elt F) g = src.view.read (Elt F) fs)
    (hamt : dst.view.amount (.dma sR) = amtQ (4 + (recvIx n).val))
    (hamt' : amtQ (4 + (sendIx n).val) = amtQ (4 + (recvIx n).val))
    (hp₁ : pts src c q fs ⊢ payQ X Wt c (4 + (sendIx n).val))
    (hp₂ : pts dst c' fullShare g ⊢ payQ X Wt c' (4 + (recvIx n).val)) :
    iprop(recs X Wt K ∗ opened c ∗ opened c' ∗ sndP c n ∗ pts src c q fs ∗ pts dst c' fullShare fd ∗ owesE c (debt c (m + 1)))
      ⊢ iprop(((rcvP c (sendIx n) ∗ owesE c (debt c m)) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (Dev.tc d) dst (.dma sS) hsc) (.dma sR) hsrc hdst hsem) k) Q) := by
  subst hd hc hsS hsR
  unfold sndP owesE
  iintro ⟨#HR, #Ho, #Ho', ⟨HtS, HtR, Hat⟩, Hs, Hd, ⟨%W, HO⟩⟩ Hk
  iapply (Rounds.wp_send_pointsTo 𝒱₀ ER (Rd X Wt) (c : Thread nD τ) none (c' := (tgt c n : Thread nD τ)) (src := src) (dst := dst)
      (sS := .dma (qS (sendIx n))) (sem := .dma (qS (recvIx n))) (q := q) (fs := fs) (κ₁ := K (qCell c (sendIx n))) (κ₂ := K (qCell (tgt c n) (recvIx n)))
      (r₁ := 0) (r₂ := 0) (d₁ := false) (d₂ := false) (fd := fd) (mem_q X Wt c _) (mem_q X Wt (tgt c n) _)
      () () (amtQ (4 + (recvIx n).val)) hamt hamt' rfl (debt c m) (by subst hm; rfl) (W := W) hp₁ ((landed src dst c (tgt c n) fs fd g hg).trans hp₂)) $$ [HtS HtR Hs Hd HO]
  · isplitr; · iapply (recs_q X Wt K c (sendIx n)); iexact HR
    isplitr; · iapply (recs_q X Wt K (tgt c n) (recvIx n)); iexact HR
    isplitl [Hs]; · iexact Hs
    isplitl [Hd]; · iexact Hd
    isplitl [HO]; · iexact HO
    isplitl [HtS]; · iexact HtS
    isplitr; · iapply (opened_q c (sendIx n)); iexact Ho
    isplitl [HtR]; · iexact HtR
    iapply (opened_q (tgt c n) (recvIx n)); iexact Ho'
  iintro ⟨Hc, HO⟩
  iapply Hk
  isplitr [HO]
  · unfold rcvP
    rw [hamt']
    isplitl [Hc]; · iexact Hc
    iexact Hat
  iexists W; iexact HO

/-- A wait on the device's own cell `i`. -/
theorem step_wait {α : Type} {Q : α → sProp 𝕄} {sp sp' : Space} {s s' : Shape} {e e' : EltTy} {src : Memref sig .tc sp s e} {dst : Memref sig .tc sp' s' e'}
    (i : Fin 24) {sm : DmaSem sig} (hsm : sm = qS i)
    {hsrc : src.view.WordExact} {hdst : dst.view.WordExact}
    {k : PUnit → Prog (TpuEff nD τ sig (Elt F) Λ₀ .tc) α}
    (hamt : dst.view.dmaCredit = amtQ (4 + i.val)) (O : CellTallies nD τ sig Unit)
    (hO : (levAts L lv : sProp 𝕄) ⊢ MayWait (c : Thread nD τ) (.dma (qS i)) () O) :
    iprop(recs X Wt K ∗ levAts L lv ∗ rcvP c i ∗ owesE c O)
      ⊢ iprop(((done c i ∗ payQ X Wt c (4 + i.val) ∗ owesE c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  subst hsm
  unfold rcvP owesE done
  iintro ⟨#HR, #Hlev, ⟨Hc, Hat⟩, ⟨%W, HO⟩⟩ Hk
  iapply (Rounds.wp_wait_rest_token 𝒱₀ ER (Rd X Wt) (c : Thread nD τ) none (κ := K (qCell c i))
      (wpE_waitDma2_eq 𝒱₀ (c : Thread nD τ) none Set.univ) (Set.mem_univ _) () (O := O) (W := W) (R := 0) (m := 0) (T := ∅)
      ((Nat.zero_add _).trans (hamt.trans (expect_q X Wt c i).symm))) $$ [Hc HO Hat]
  · isplitr; · iapply (recs_q X Wt K c i); iexact HR
    isplitl [Hc]; · rw [hamt]; iexact Hc
    isplitl [HO]; · iexact HO
    isplitr; · iapply hO; iexact Hlev
    iexact Hat
  iintro ⟨HO, Hat, -, Hpay⟩
  ihave Hp := (Entails.of_eq (rest_q X Wt c i)) $$ Hpay
  iapply Hk
  isplitl [Hat]; · iexact Hat
  isplitl [Hp]; · iexact Hp
  iexists _; iexact HO

end Steps

end Cert.RingK
-- ==== Proof.Stores.lean ====
/-
# What the loads read, what each store leaves in the result, and the shares the loads are made from
-/
module

public import proofs.«01_k».proof.Proof.Steps

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-! ## The rectangles of the loads and the stores -/

abbrev rX : Rect S4096x1024 := Rect.unit (s := S4096x1024) ![0, 0] S4096x1024.size inb_S4096x1024_S4096x1024_0_0
abbrev rW : Rect S1024x2048 := Rect.unit (s := S1024x2048) ![0, 0] S1024x2048.size inb_S1024x2048_S1024x2048_0_0
abbrev rO : Rect S4096x2048 := Rect.unit (s := S4096x2048) ![0, 0] S4096x2048.size inb_S4096x2048_S4096x2048_0_0
abbrev rTop : Rect S4096x2048 := Rect.unit (s := S4096x2048) ![0, 0] S2048x2048.size inb_S4096x2048_S2048x2048_0_0
abbrev rBot : Rect S4096x2048 := Rect.unit (s := S4096x2048) ![2048, 0] S2048x2048.size inb_S4096x2048_S2048x2048_2048_0
abbrev rQ0 : Rect S4096x2048 := Rect.unit (s := S4096x2048) ![0, 0] S1024x2048.size inb_S4096x2048_S1024x2048_0_0
abbrev rQ1 : Rect S4096x2048 := Rect.unit (s := S4096x2048) ![1024, 0] S1024x2048.size inb_S4096x2048_S1024x2048_1024_0
abbrev rQ2 : Rect S4096x2048 := Rect.unit (s := S4096x2048) ![2048, 0] S1024x2048.size inb_S4096x2048_S1024x2048_2048_0
abbrev rQ3 : Rect S4096x2048 := Rect.unit (s := S4096x2048) ![3072, 0] S1024x2048.size inb_S4096x2048_S1024x2048_3072_0
abbrev rs0 : Rect S3x2048x1024 := Rect.unit (s := S3x2048x1024) ![0, 0, 0] S1x2048x1024.size inb_S3x2048x1024_S1x2048x1024_0_0_0
abbrev rs1 : Rect S3x2048x1024 := Rect.unit (s := S3x2048x1024) ![1, 0, 0] S1x2048x1024.size inb_S3x2048x1024_S1x2048x1024_1_0_0
abbrev rs2A : Rect S3x2048x1024 := Rect.unit (s := S3x2048x1024) ![2, 0, 0] S1x1024x1024.size inb_S3x2048x1024_S1x1024x1024_2_0_0
abbrev rs2B : Rect S3x2048x1024 := Rect.unit (s := S3x2048x1024) ![2, 1024, 0] S1x1024x1024.size inb_S3x2048x1024_S1x1024x1024_2_1024_0
abbrev rS : Rect S1 := Rect.unit (s := S1) ![0] S1.size inb_S1_S1_0

section Inc
variable (M3 : Memref sig .tc .vmem S3x2048x1024 .fp8e4m3)
theorem inc_slot0 : (M3.access rs0).set ⊆ (slot0 M3).view.set := by
  exact (View.set_reshape (M3.view.slice rs0) _).ge
theorem inc_slot1 : (M3.access rs1).set ⊆ (slot1 M3).view.set := by
  exact (View.set_reshape (M3.view.slice rs1) _).ge
theorem inc_slot2A : (M3.access rs2A).set ⊆ (slot2A M3).view.set := by
  exact (View.set_reshape (M3.view.slice rs2A) _).ge
theorem inc_slot2B : (M3.access rs2B).set ⊆ (slot2B M3).view.set := by
  exact (View.set_reshape (M3.view.slice rs2B) _).ge
end Inc

/-! ## The result after each store -/

/-- The result window's contents. -/
abbrev OC (F : FTy → Type) : Type := (cc0_stg3_0 : Ref sig .tc).ty.Contents (Elt F)

section Stores
variable (X : XC F) (Wt : WC F) (c : Dev nD) (o : OC F)

/-- The own block's product. -/
def st0 : OC F :=
  (oM.access rO).write (Elt F) o (k0_pay1 ((xM.access rX).read (Elt F) (X c)) ((wM.access rW).read (Elt F) (Wt c))) Finset.univ
/-- The top half with the left neighbour's block added. -/
def st1 : OC F :=
  (oM.access rTop).write (Elt F) o (k0_pay2 ((oM.access rTop).read (Elt F) o) ((aM.access rs0).read (Elt F) (aF X c)) ((lM.access rW).read (Elt F) (lF Wt c))) Finset.univ
/-- The bottom half with the right neighbour's block added. -/
def st2 (v130 : FVec F S2048x2048 .f32) : OC F :=
  (oM.access rBot).write (Elt F) o (k0_pay4 v130 ((bM.access rs0).read (Elt F) (bF X c)) ((rM.access rW).read (Elt F) (rF Wt c))) Finset.univ
/-- The two halves with the opposite device's block added. -/
def st3 : OC F :=
  (oM.access rTop).write (Elt F) o (k0_pay5 ((oM.access rTop).read (Elt F) o) ((aM.access rs1).read (Elt F) (aF X c)) ((dM.access rW).read (Elt F) (dF Wt c))) Finset.univ
def st4 : OC F :=
  (oM.access rBot).write (Elt F) o (k0_pay6 ((oM.access rBot).read (Elt F) o) ((bM.access rs1).read (Elt F) (bF X c)) ((dM.access rW).read (Elt F) (dF Wt c))) Finset.univ
/-- The four quarters with the last block added, scaled. -/
def st5 (v269 : Elt F .f32) : OC F :=
  (oM.access rQ0).write (Elt F) o (k0_pay7 v269 ((oM.access rQ0).read (Elt F) o) ((aM.access rs2A).read (Elt F) (aF X c)) ((rM.access rW).read (Elt F) (rF Wt c))) Finset.univ
def st6 (v269 : Elt F .f32) (v281 : FVec F S1024x2048 .f32) (v283 : FVec F S1024x1024 .fp8e4m3) : OC F :=
  (oM.access rQ2).write (Elt F) o (k0_pay10 v269 v281 v283 ((lM.access rW).read (Elt F) (lF Wt c))) Finset.univ
def st7 (v269 : Elt F .f32) : OC F :=
  (oM.access rQ1).write (Elt F) o (k0_pay11 v269 ((oM.access rQ1).read (Elt F) o) ((aM.access rs2B).read (Elt F) (aF X c)) ((rM.access rW).read (Elt F) (rF Wt c))) Finset.univ
def st8 (v336 : FVec F S1024x2048 .f32) : OC F :=
  (oM.access rQ3).write (Elt F) o v336 Finset.univ
/-- What the last store writes. -/
def last (v269 : Elt F .f32) : FVec F S1024x2048 .f32 :=
  k0_pay12 v269 ((oM.access rQ3).read (Elt F) o) ((bM.access rs2B).read (Elt F) (bF X c)) ((lM.access rW).read (Elt F) (lF Wt c))
end Stores

/-- The scale's window's contents, and the one element the body loads. -/
abbrev SC (F : FTy → Type) : Type := (cc0_stg2_0 : Ref sig .tc).ty.Contents (Elt F)
def scal (s : SC F) : Elt F .f32 := (sM.access rS).read (Elt F) s (Shape.Idx.first (numel1_S1.symm ▸ Nat.one_pos))

section Out
variable (X : XC F) (Wt : WC F) (c : Dev nD) (s : SC F) (o : OC F)
/-- After the step on the own block and on the neighbours'. -/
def mid2 : OC F := st2 X Wt c (st1 X Wt c (st0 X Wt c o)) (k0_pay3 ((oM.access rBot).read (Elt F) (st1 X Wt c (st0 X Wt c o))))
/-- After the opposite block. -/
def mid4 : OC F := st4 X Wt c (st3 X Wt c (mid2 X Wt c o))
def mid5 : OC F := st5 X Wt c (mid4 X Wt c o) (scal s)
def mid6 : OC F := st6 Wt c (mid5 X Wt c s o) (scal s) (k0_pay8 ((oM.access rQ2).read (Elt F) (mid5 X Wt c s o))) (k0_pay9 ((bM.access rs2A).read (Elt F) (bF X c)))
def mid7 : OC F := st7 X Wt c (mid6 X Wt c s o) (scal s)
/-- The result. -/
def outC : OC F := st8 (mid7 X Wt c s o) (last X Wt c (mid7 X Wt c s o) (scal s))
end Out

end Cert.RingK
-- ==== Proof.Known.lean ====
/-
# What the steps of the body know
-/
module

public import proofs.«01_k».proof.Proof.Stores

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

section Known
variable (X : XC F) (Wt : WC F) (K : GSem nD τ sig → ℕ) (c : Dev nD)

/-- What every step may use without using it up. -/
def known : sProp 𝕄 := iprop(recs X Wt K ∗ levAts L lv ∗ opened c ∗ opened (nxt c) ∗ opened (prv c))
instance known_persistent : BI.Persistent (known X Wt K c : sProp 𝕄) := by unfold known; infer_instance
theorem known_recs : (known X Wt K c : sProp 𝕄) ⊢ recs X Wt K := by
  unfold known; iintro ⟨H, -, -, -, -⟩; iexact H
theorem known_lev : (known X Wt K c : sProp 𝕄) ⊢ levAts L lv := by
  unfold known; iintro ⟨-, H, -, -, -⟩; iexact H
theorem known_self : (known X Wt K c : sProp 𝕄) ⊢ opened c := by
  unfold known; iintro ⟨-, -, H, -, -⟩; iexact H
theorem known_nxt : (known X Wt K c : sProp 𝕄) ⊢ opened (nxt c) := by
  unfold known; iintro ⟨-, -, -, H, -⟩; iexact H
theorem known_prv : (known X Wt K c : sProp 𝕄) ⊢ opened (prv c) := by
  unfold known; iintro ⟨-, -, -, -, H⟩; iexact H
end Known

theorem owesE_elim (c : Dev nD) (O : CellTallies nD τ sig Unit) : (owesE c O : sProp 𝕄) ⊢ iprop(∃ W, owes (c : Thread nD τ) O W) := .rfl
theorem owesE_intro (c : Dev nD) (O : CellTallies nD τ sig Unit) (W : Waits sig Unit) : (owes (c : Thread nD τ) O W : sProp 𝕄) ⊢ owesE c O := by
  unfold owesE; iintro H; iexists W; iexact H

/-- A store into the result's window, its contents under the name of what it leaves. -/
theorem step_store (c : Dev nD) {α : Type} {Q : α → sProp 𝕄} {r : Rect S4096x2048} {w : r.shape.Idx → Elt F .f32}
    {hx : (oM.access r).Stores Finset.univ} {hm : (Finset.univ : Finset r.shape.Idx) = Finset.univ ∨ ∀ a, r.stride a = 1}
    {k : PUnit → Prog (TpuEff nD τ sig (Elt F) Λ₀ .tc) α} (o o' : OC F) (ho : (oM.access r).write (Elt F) o w Finset.univ = o') :
    (pts oM c fullShare o : sProp 𝕄)
      ⊢ iprop((pts oM c fullShare o' -∗ wp frame (wpE (defs₀ (F := F)) 𝒱₀ (c : Thread nD τ) none) Set.univ (k ⟨⟩) Q)
        -∗ wp frame (wpE (defs₀ (F := F)) 𝒱₀ (c : Thread nD τ) none) Set.univ (.op (.store oM r w Finset.univ hx hm) k) Q) := by
  subst ho
  exact wp_store 𝒱₀ (c : Thread nD τ) none Set.univ (m := oM) (r := r) (S := oM.view.set) (f := o) (by rw [View.setOn_univ]; exact View.set_slice_subset _ _)

end Cert.RingK
-- ==== Proof.Start.lean ====
/-
# The start of the body: the barrier and the first transfer
-/
module

public import proofs.«01_k».proof.Proof.Known

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-- The left neighbour's barrier cell gets the buffers its transfers to the right land in. -/
theorem give_left (X : XC F) (Wt : WC F) (c : Dev nD) :
    iprop((∃ f : (cc0_scratch0 : Ref sig .tc).ty.Contents (Elt F), pts aM c fullShare f) ∗ (∃ f : (cc0_scratch2 : Ref sig .tc).ty.Contents (Elt F), pts lM c fullShare f)
      ∗ (∃ f : (cc0_scratch4 : Ref sig .tc).ty.Contents (Elt F), pts (colL dM) c fullShare f) ∗ opened c) ⊢ ((Rd X Wt).payload (barCell (prv c)) 0 true : sProp 𝕄) := by
  show _ ⊢ barT (prv c)
  unfold barT
  rw [nxt_prv]
/-- The right neighbour's gets the buffers its transfers to the left land in. -/
theorem give_right (X : XC F) (Wt : WC F) (c : Dev nD) :
    iprop((∃ f : (cc0_scratch1 : Ref sig .tc).ty.Contents (Elt F), pts bM c fullShare f) ∗ (∃ f : (cc0_scratch3 : Ref sig .tc).ty.Contents (Elt F), pts rM c fullShare f)
      ∗ (∃ f : (cc0_scratch4 : Ref sig .tc).ty.Contents (Elt F), pts (colR dM) c fullShare f) ∗ opened c) ⊢ ((Rd X Wt).payload (barCell (nxt c)) 0 false : sProp 𝕄) := by
  show _ ⊢ barF (nxt c)
  unfold barF
  rw [prv_nxt]

section Start
variable (X : XC F) (Wt : WC F) (K : GSem nD τ sig → ℕ) (c : Dev nD)

/-- The two signals, the wait for the neighbours' two, and the first transfer. -/
theorem part1_run {α : Type} {Q : α → sProp 𝕄} {k : (Σ' (_ : Dev nD) (_ : BitVec 32), BitVec 32) → Prog (TpuEff nD τ sig (Elt F) Λ₀ .tc) α} :
    iprop((recs X Wt K ∗ levAts L lv ∗ opened c)
      ∗ (∃ f : (cc0_scratch0 : Ref sig .tc).ty.Contents (Elt F), pts aM c fullShare f) ∗ (∃ f : (cc0_scratch1 : Ref sig .tc).ty.Contents (Elt F), pts bM c fullShare f)
      ∗ (∃ f : (cc0_scratch2 : Ref sig .tc).ty.Contents (Elt F), pts lM c fullShare f) ∗ (∃ f : (cc0_scratch3 : Ref sig .tc).ty.Contents (Elt F), pts rM c fullShare f)
      ∗ (∃ f : (cc0_scratch4 : Ref sig .tc).ty.Contents (Elt F), pts dM c fullShare f)
      ∗ dutyTok ER (barCell (prv c)) 0 true ∗ dutyTok ER (barCell (nxt c)) 0 false ∗ cred (tallyAt (barCell c) () 2) ∗ atPos ER (barCell c) 0 ∅ 0
      ∗ sndP c 0 ∗ pts xM c fullShare (X c) ∗ pts wM c fullShare (Wt c) ∗ owesE c (O₀ c))
      ⊢ iprop((∀ (v5 v7 : BitVec 32) (fa : (cc0_scratch0 : Ref sig .tc).ty.Contents (Elt F)) (fb : (cc0_scratch1 : Ref sig .tc).ty.Contents (Elt F)) (fl : (cc0_scratch2 : Ref sig .tc).ty.Contents (Elt F)) (fr : (cc0_scratch3 : Ref sig .tc).ty.Contents (Elt F)) (fd fe : (cc0_scratch4 : Ref sig .tc).ty.Contents (Elt F)),
          (known X Wt K c ∗ rcvP c 0 ∗ owesE c (debt c 11) ∗ atPos ER (barCell c) 1 ∅ 0 ∗ pts xM c qL (X c) ∗ pts xBot c qR (X c) ∗ pts wM c qL (Wt c) ∗ pts wM c qRL (Wt c) ∗ pts wM c qRR (Wt c) ∗ pts (slot1 aM) (nxt c) fullShare fa ∗ pts (slot2A aM) (nxt c) fullShare fa ∗ pts (slot2B aM) (nxt c) fullShare fa ∗ pts (slot0 bM) (prv c) fullShare fb ∗ pts (slot1 bM) (prv c) fullShare fb ∗ pts (slot2A bM) (prv c) fullShare fb ∗ pts (slot2B bM) (prv c) fullShare fb ∗ pts lM (nxt c) fullShare fl ∗ pts rM (prv c) fullShare fr ∗ pts (colL dM) (nxt c) fullShare fd ∗ pts (colR dM) (prv c) fullShare fe) -∗ wp frame (wpE (defs₀ (F := F)) 𝒱₀ (c : Thread nD τ) none) Set.univ (k ⟨c, v5, v7⟩) Q)
        -∗ wp frame (wpE (defs₀ (F := F)) 𝒱₀ (c : Thread nD τ) none) Set.univ (k0_part1 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 >>= k) Q) := by
  rw [k0_part1_eq_skeleton]
  unfold k0_part1_skel
  simp only [semSignalWord, semWaitWord, bind_assoc, Prog.bind_lift, Prog.bind_op, Prog.bind_ret, pure_bind, wp_deviceId]
  unfold O₀
  iintro ⟨⟨#HR, #Hlev, #Ho⟩, A, B, L, R, ⟨%fD, D⟩, TP, TN, cB, atB, sn0, X, W, HO⟩ Hk
  ihave HO := (owesE_elim c _) $$ HO
  icases HO with ⟨%W0, HO⟩
  ihave D := (split_d c fullShare fD).1 $$ D
  icases D with ⟨DL, DR⟩
  rw [dev1_eq c, dev2_eq c]
  iapply (Rounds.wp_signal 𝒱₀ ER (Rd X Wt) (c : Thread nD τ) none (dst := (prv c : Thread nD τ)) (sem := barS) (r := 0) (d := true) (κ := K (barCell (prv c)))
      (mem_bar X Wt (prv c) true) rfl () (debt c 12 + tallyAt (barCell (nxt c)) () 1) rfl) $$ [HO TP A L DL]
  · isplitr; · iapply (recs_bar X Wt K (prv c)); iexact HR
    isplitl [HO]; · iexact HO
    isplitl [TP]; · iexact TP
    isplitl [A L DL]
    · iapply (give_left X Wt c)
      isplitl [A]; · iexact A
      isplitl [L]; · iexact L
      isplitl [DL]; · iexists fD; iexact DL
      iexact Ho
    iapply (recs_reached X Wt K (prv c)); iexact HR
  iintro HO
  iapply (Rounds.wp_signal 𝒱₀ ER (Rd X Wt) (c : Thread nD τ) none (dst := (nxt c : Thread nD τ)) (sem := barS) (r := 0) (d := false) (κ := K (barCell (nxt c)))
      (mem_bar X Wt (nxt c) false) rfl () (debt c 12) rfl) $$ [HO TN B R DR]
  · isplitr; · iapply (recs_bar X Wt K (nxt c)); iexact HR
    isplitl [HO]; · iexact HO
    isplitl [TN]; · iexact TN
    isplitl [B R DR]
    · iapply (give_right X Wt c)
      isplitl [B]; · iexact B
      isplitl [R]; · iexact R
      isplitl [DR]; · iexists fD; iexact DR
      iexact Ho
    iapply (recs_reached X Wt K (nxt c)); iexact HR
  iintro HO
  iapply (Rounds.wp_wait_rest_token 𝒱₀ ER (Rd X Wt) (c : Thread nD τ) none (κ := K (barCell c))
      (wpE_semWait_eq 𝒱₀ (c : Thread nD τ) none Set.univ) (Set.mem_univ _) () (O := debt c 12) (W := W0) (R := 0) (m := 0) (T := ∅)
      ((Nat.zero_add 2).trans (expect_bar X Wt c).symm)) $$ [cB HO atB]
  · isplitr; · iapply (recs_bar X Wt K c); iexact HR
    isplitl [cB]; · iexact cB
    isplitl [HO]; · iexact HO
    isplitr; · iapply (mayWait_debt c (.reg barS) 12 (by decide)); iexact Hlev
    iexact atB
  iintro ⟨HO, atB, -, Hpay⟩
  ihave Hp := (Entails.of_eq (rest_bar X Wt c)) $$ Hpay
  unfold barF barT
  icases Hp with ⟨⟨⟨%fb, B⟩, ⟨%fr, R⟩, ⟨%fe, DR⟩, #HoP⟩, ⟨%fa, A⟩, ⟨%fl, L⟩, ⟨%fd, DL⟩, #HoN⟩
  ihave A := (split_a (nxt c) fullShare fa).1 $$ A
  icases A with ⟨aN0, aN1, aN2A, aN2B⟩
  ihave B := (split_b (prv c) fullShare fb).1 $$ B
  icases B with ⟨bP0, bP1, bP2A, bP2B⟩
  ihave X := (share_two fullShare).1 $$ X
  icases X with ⟨XL, XR⟩
  ihave XR := (split_x c qR (X c)).1 $$ XR
  icases XR with ⟨XT, XB⟩
  ihave W := (share_two fullShare).1 $$ W
  icases W with ⟨WL, WR⟩
  ihave WR := (share_two qR).1 $$ WR
  icases WR with ⟨W0, W1⟩
  iapply (step_send X Wt K c 0 11 rfl (c' := nxt c) rfl (dev3_eq c) rfl rfl (src := xTop) (dst := (slot0 aM)) qR (X c) fa (aF X (nxt c)) (read_xTop X c) ((credit_x _).trans amt_4.symm) (amt_0.trans amt_4.symm) .rfl .rfl) $$ [XT aN0 sn0 HO]
  · isplitr; · iexact HR
    isplitr; · iexact Ho
    isplitr; · iexact HoN
    isplitl [sn0]; · iexact sn0
    isplitl [XT]; · iexact XT
    isplitl [aN0]; · iexact aN0
    iapply (owesE_intro c _ _); iexact HO
  iintro ⟨rc0, HO⟩
  iapply Hk
  isplitr
  · unfold known
    isplitr; · iexact HR
    isplitr; · iexact Hlev
    isplitr; · iexact Ho
    isplitr; · iexact HoN
    iexact HoP
  isplitl [rc0]; · iexact rc0
  isplitl [HO]; · iexact HO
  isplitl [atB]; · iexact atB
  isplitl [XL]; · iexact XL
  isplitl [XB]; · iexact XB
  isplitl [WL]; · iexact WL
  isplitl [W0]; · iexact W0
  isplitl [W1]; · iexact W1
  isplitl [aN1]; · iexact aN1
  isplitl [aN2A]; · iexact aN2A
  isplitl [aN2B]; · iexact aN2B
  isplitl [bP0]; · iexact bP0
  isplitl [bP1]; · iexact bP1
  isplitl [bP2A]; · iexact bP2A
  isplitl [bP2B]; · iexact bP2B
  isplitl [L]; · iexact L
  isplitl [R]; · iexact R
  isplitl [DL]; · iexact DL
  iexact DR
end Start

end Cert.RingK
-- ==== Proof.RunA.lean ====
/-
# The body up to the second step of the ring
-/
module

public import proofs.«01_k».proof.Proof.Known

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

section Runs
variable (X : XC F) (Wt : WC F) (K : GSem nD τ sig → ℕ) (c : Dev nD)

theorem part2_run {α : Type} {Q : α → sProp 𝕄} (fb : (cc0_scratch1 : Ref sig .tc).ty.Contents (Elt F)) (fl : (cc0_scratch2 : Ref sig .tc).ty.Contents (Elt F)) (fr : (cc0_scratch3 : Ref sig .tc).ty.Contents (Elt F)) (o : OC F) (v5 : BitVec 32) (v7 : BitVec 32) {k : PUnit → Prog (TpuEff nD τ sig (Elt F) Λ₀ .tc) α} :
    iprop(known X Wt K c ∗ pts xBot c qR (X c) ∗ pts (slot0 bM) (prv c) fullShare fb ∗ sndP c 1 ∗ pts wM c qRL (Wt c) ∗ pts lM (nxt c) fullShare fl ∗ sndP c 2 ∗ pts wM c qRR (Wt c) ∗ pts rM (prv c) fullShare fr ∗ sndP c 3 ∗ pts xM c qL (X c) ∗ pts wM c qL (Wt c) ∗ rcvP c 0 ∗ owesE c (debt c 11) ∗ pts oM c fullShare o)
      ⊢ iprop(((rcvP c 8 ∗ rcvP c 16 ∗ rcvP c 17 ∗ pts xM c qL (X c) ∗ pts wM c qL (Wt c) ∗ done c 0 ∗ pts xTop c qR (X c) ∗ owesE c (debt c 8) ∗ pts oM c fullShare (st0 X Wt c o)) -∗ wp frame (wpE (defs₀ (F := F)) 𝒱₀ (c : Thread nD τ) none) Set.univ (k ⟨⟩) Q)
        -∗ wp frame (wpE (defs₀ (F := F)) 𝒱₀ (c : Thread nD τ) none) Set.univ (k0_part2 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 c v5 v7 >>= k) Q) := by
  rw [k0_part2_eq_skeleton]
  unfold k0_part2_skel
  simp only [smemLoad, smemLoadElt, bind_assoc, Prog.bind_lift, Prog.bind_op, pure_bind]
  iintro ⟨#HK, XB, bP0, sn1, W0, lN, sn2, W1, rP, sn3, XL, WL, rc0, HO, O⟩ Hk
  iapply (step_send X Wt K c 1 10 rfl (c' := prv c) rfl (dev4_eq c) rfl rfl (src := xBot) (dst := (slot0 bM)) qR (X c) fb (bF X (prv c)) (read_xBot X c) ((credit_x _).trans amt_12.symm) (amt_8.trans amt_12.symm) .rfl .rfl) $$ [XB bP0 sn1 HO]
  · isplitr; · iapply (known_recs X Wt K c); iexact HK
    isplitr; · iapply (known_self X Wt K c); iexact HK
    isplitr; · iapply (known_prv X Wt K c); iexact HK
    isplitl [sn1]; · iexact sn1
    isplitl [XB]; · iexact XB
    isplitl [bP0]; · iexact bP0
    iexact HO
  iintro ⟨rc8, HO⟩
  iapply (step_send X Wt K c 2 9 rfl (c' := nxt c) rfl (dev5_eq c) rfl rfl (src := wM) (dst := lM) qRL (Wt c) fl (lF Wt (nxt c)) (read_wL Wt c) ((credit_w _).trans amt_20.symm) (amt_16.trans amt_20.symm) .rfl .rfl) $$ [W0 lN sn2 HO]
  · isplitr; · iapply (known_recs X Wt K c); iexact HK
    isplitr; · iapply (known_self X Wt K c); iexact HK
    isplitr; · iapply (known_nxt X Wt K c); iexact HK
    isplitl [sn2]; · iexact sn2
    isplitl [W0]; · iexact W0
    isplitl [lN]; · iexact lN
    iexact HO
  iintro ⟨rc16, HO⟩
  iapply (step_send X Wt K c 3 8 rfl (c' := prv c) rfl (dev6_eq c) rfl rfl (src := wM) (dst := rM) qRR (Wt c) fr (rF Wt (prv c)) (read_wR Wt c) ((credit_w _).trans amt_21.symm) (amt_17.trans amt_21.symm) .rfl .rfl) $$ [W1 rP sn3 HO]
  · isplitr; · iapply (known_recs X Wt K c); iexact HK
    isplitr; · iapply (known_self X Wt K c); iexact HK
    isplitr; · iapply (known_prv X Wt K c); iexact HK
    isplitl [sn3]; · iexact sn3
    isplitl [W1]; · iexact W1
    isplitl [rP]; · iexact rP
    iexact HO
  iintro ⟨rc17, HO⟩
  iapply (wp_load_rect 𝒱₀ (c : Thread nD τ) none Set.univ (m := xM) (r := rX) (S := xM.view.set) (q := qL) (f := (X c)) (View.set_slice_subset _ _)) $$ XL
  iintro XL
  iapply (wp_load_rect 𝒱₀ (c : Thread nD τ) none Set.univ (m := wM) (r := rW) (S := wM.view.set) (q := qL) (f := (Wt c)) (View.set_slice_subset _ _)) $$ WL
  iintro WL
  iapply (wp_load_rect 𝒱₀ (c : Thread nD τ) none Set.univ (m := oM) (r := rO) (S := oM.view.set) (q := fullShare) (f := o) (View.set_slice_subset _ _)) $$ O
  iintro O
  iapply (step_store c (r := rO) o (st0 X Wt c o) rfl) $$ O
  iintro O
  iapply (step_wait X Wt K c 0 rfl ((credit_x _).trans amt_0.symm) (debt c 8) (mayWait_debt c _ 8 (by decide))) $$ [rc0 HO]
  · isplitr; · iapply (known_recs X Wt K c); iexact HK
    isplitr; · iapply (known_lev X Wt K c); iexact HK
    isplitl [rc0]; · iexact rc0
    iexact HO
  iintro ⟨dn0, XT, HO⟩
  ihave XT := (Entails.of_eq (show payQ X Wt c (4 + ((0 : Fin 24) : ℕ)) = pts xTop c qR (X c) from rfl)) $$ XT
  iapply Hk
  isplitl [rc8]; · iexact rc8
  isplitl [rc16]; · iexact rc16
  isplitl [rc17]; · iexact rc17
  isplitl [XL]; · iexact XL
  isplitl [WL]; · iexact WL
  isplitl [dn0]; · iexact dn0
  isplitl [XT]; · iexact XT
  isplitl [HO]; · iexact HO
  iexact O

theorem part3_run {α : Type} {Q : α → sProp 𝕄} (v5 : BitVec 32) (v7 : BitVec 32) {k : PUnit → Prog (TpuEff nD τ sig (Elt F) Λ₀ .tc) α} :
    iprop(known X Wt K c ∗ rcvP c 4 ∗ rcvP c 8 ∗ rcvP c 12 ∗ rcvP c 16 ∗ owesE c (debt c 8))
      ⊢ iprop(((done c 4 ∗ pts (slot0 aM) c fullShare (aF X c) ∗ done c 8 ∗ pts xBot c qR (X c) ∗ done c 12 ∗ pts (slot0 bM) c fullShare (bF X c) ∗ done c 16 ∗ pts wM c qRL (Wt c) ∗ owesE c (debt c 8)) -∗ wp frame (wpE (defs₀ (F := F)) 𝒱₀ (c : Thread nD τ) none) Set.univ (k ⟨⟩) Q)
        -∗ wp frame (wpE (defs₀ (F := F)) 𝒱₀ (c : Thread nD τ) none) Set.univ (k0_part3 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 v5 v7 >>= k) Q) := by
  rw [k0_part3_eq_skeleton]
  unfold k0_part3_skel
  simp only [smemLoad, smemLoadElt, bind_assoc, Prog.bind_lift, Prog.bind_op, pure_bind]
  iintro ⟨#HK, rc4, rc8, rc12, rc16, HO⟩ Hk
  iapply (step_wait X Wt K c 4 rfl ((credit_x _).trans amt_4.symm) (debt c 8) (mayWait_debt c _ 8 (by decide))) $$ [rc4 HO]
  · isplitr; · iapply (known_recs X Wt K c); iexact HK
    isplitr; · iapply (known_lev X Wt K c); iexact HK
    isplitl [rc4]; · iexact rc4
    iexact HO
  iintro ⟨dn4, a0, HO⟩
  ihave a0 := (Entails.of_eq (show payQ X Wt c (4 + ((4 : Fin 24) : ℕ)) = pts (slot0 aM) c fullShare (aF X c) from rfl)) $$ a0
  iapply (step_wait X Wt K c 8 rfl ((credit_x _).trans amt_8.symm) (debt c 8) (mayWait_debt c _ 8 (by decide))) $$ [rc8 HO]
  · isplitr; · iapply (known_recs X Wt K c); iexact HK
    isplitr; · iapply (known_lev X Wt K c); iexact HK
    isplitl [rc8]; · iexact rc8
    iexact HO
  iintro ⟨dn8, XB, HO⟩
  ihave XB := (Entails.of_eq (show payQ X Wt c (4 + ((8 : Fin 24) : ℕ)) = pts xBot c qR (X c) from rfl)) $$ XB
  iapply (step_wait X Wt K c 12 rfl ((credit_x _).trans amt_12.symm) (debt c 8) (mayWait_debt c _ 8 (by decide))) $$ [rc12 HO]
  · isplitr; · iapply (known_recs X Wt K c); iexact HK
    isplitr; · iapply (known_lev X Wt K c); iexact HK
    isplitl [rc12]; · iexact rc12
    iexact HO
  iintro ⟨dn12, b0, HO⟩
  ihave b0 := (Entails.of_eq (show payQ X Wt c (4 + ((12 : Fin 24) : ℕ)) = pts (slot0 bM) c fullShare (bF X c) from rfl)) $$ b0
  iapply (step_wait X Wt K c 16 rfl ((credit_w _).trans amt_16.symm) (debt c 8) (mayWait_debt c _ 8 (by decide))) $$ [rc16 HO]
  · isplitr; · iapply (known_recs X Wt K c); iexact HK
    isplitr; · iapply (known_lev X Wt K c); iexact HK
    isplitl [rc16]; · iexact rc16
    iexact HO
  iintro ⟨dn16, W0, HO⟩
  ihave W0 := (Entails.of_eq (show payQ X Wt c (4 + ((16 : Fin 24) : ℕ)) = pts wM c qRL (Wt c) from rfl)) $$ W0
  iapply Hk
  isplitl [dn4]; · iexact dn4
  isplitl [a0]; · iexact a0
  isplitl [dn8]; · iexact dn8
  isplitl [XB]; · iexact XB
  isplitl [dn12]; · iexact dn12
  isplitl [b0]; · iexact b0
  isplitl [dn16]; · iexact dn16
  isplitl [W0]; · iexact W0
  iexact HO

theorem part4_run {α : Type} {Q : α → sProp 𝕄} (fa : (cc0_scratch0 : Ref sig .tc).ty.Contents (Elt F)) (fb : (cc0_scratch1 : Ref sig .tc).ty.Contents (Elt F)) (v5 : BitVec 32) (v7 : BitVec 32) {k : PUnit → Prog (TpuEff nD τ sig (Elt F) Λ₀ .tc) α} :
    iprop(known X Wt K c ∗ rcvP c 20 ∗ rcvP c 17 ∗ rcvP c 21 ∗ pts (slot0 aM) c fullShare (aF X c) ∗ pts (slot0 bM) c fullShare (bF X c) ∗ pts (slot1 aM) (nxt c) fullShare fa ∗ sndP c 4 ∗ pts (slot1 bM) (prv c) fullShare fb ∗ sndP c 5 ∗ owesE c (debt c 8))
      ⊢ iprop(((done c 20 ∗ pts lM c fullShare (lF Wt c) ∗ done c 17 ∗ pts wM c qRR (Wt c) ∗ done c 21 ∗ pts rM c fullShare (rF Wt c) ∗ pts (slot0 aM) c qL (aF X c) ∗ pts (slot0 bM) c qL (bF X c) ∗ rcvP c 1 ∗ rcvP c 9 ∗ owesE c (debt c 6)) -∗ wp frame (wpE (defs₀ (F := F)) 𝒱₀ (c : Thread nD τ) none) Set.univ (k ⟨⟩) Q)
        -∗ wp frame (wpE (defs₀ (F := F)) 𝒱₀ (c : Thread nD τ) none) Set.univ (k0_part4 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 c v5 v7 >>= k) Q) := by
  rw [k0_part4_eq_skeleton]
  unfold k0_part4_skel
  simp only [smemLoad, smemLoadElt, bind_assoc, Prog.bind_lift, Prog.bind_op, pure_bind]
  iintro ⟨#HK, rc20, rc17, rc21, a0, b0, aN1, sn4, bP1, sn5, HO⟩ Hk
  iapply (step_wait X Wt K c 20 rfl ((credit_w _).trans amt_20.symm) (debt c 8) (mayWait_debt c _ 8 (by decide))) $$ [rc20 HO]
  · isplitr; · iapply (known_recs X Wt K c); iexact HK
    isplitr; · iapply (known_lev X Wt K c); iexact HK
    isplitl [rc20]; · iexact rc20
    iexact HO
  iintro ⟨dn20, l, HO⟩
  ihave l := (Entails.of_eq (show payQ X Wt c (4 + ((20 : Fin 24) : ℕ)) = pts lM c fullShare (lF Wt c) from rfl)) $$ l
  iapply (step_wait X Wt K c 17 rfl ((credit_w _).trans amt_17.symm) (debt c 8) (mayWait_debt c _ 8 (by decide))) $$ [rc17 HO]
  · isplitr; · iapply (known_recs X Wt K c); iexact HK
    isplitr; · iapply (known_lev X Wt K c); iexact HK
    isplitl [rc17]; · iexact rc17
    iexact HO
  iintro ⟨dn17, W1, HO⟩
  ihave W1 := (Entails.of_eq (show payQ X Wt c (4 + ((17 : Fin 24) : ℕ)) = pts wM c qRR (Wt c) from rfl)) $$ W1
  iapply (step_wait X Wt K c 21 rfl ((credit_w _).trans amt_21.symm) (debt c 8) (mayWait_debt c _ 8 (by decide))) $$ [rc21 HO]
  · isplitr; · iapply (known_recs X Wt K c); iexact HK
    isplitr; · iapply (known_lev X Wt K c); iexact HK
    isplitl [rc21]; · iexact rc21
    iexact HO
  iintro ⟨dn21, r, HO⟩
  ihave r := (Entails.of_eq (show payQ X Wt c (4 + ((21 : Fin 24) : ℕ)) = pts rM c fullShare (rF Wt c) from rfl)) $$ r
  ihave a0 := (share_two fullShare).1 $$ a0
  icases a0 with ⟨a0L, a0R⟩
  ihave b0 := (share_two fullShare).1 $$ b0
  icases b0 with ⟨b0L, b0R⟩
  iapply (step_send X Wt K c 4 7 rfl (c' := nxt c) rfl (dev7_eq c) rfl rfl (src := (slot0 aM)) (dst := (slot1 aM)) qR (aF X c) fa (aF X (nxt c)) (read_a_slot1 X c) ((credit_x _).trans amt_5.symm) (amt_1.trans amt_5.symm) .rfl .rfl) $$ [a0R aN1 sn4 HO]
  · isplitr; · iapply (known_recs X Wt K c); iexact HK
    isplitr; · iapply (known_self X Wt K c); iexact HK
    isplitr; · iapply (known_nxt X Wt K c); iexact HK
    isplitl [sn4]; · iexact sn4
    isplitl [a0R]; · iexact a0R
    isplitl [aN1]; · iexact aN1
    iexact HO
  iintro ⟨rc1, HO⟩
  iapply (step_send X Wt K c 5 6 rfl (c' := prv c) rfl (dev8_eq c) rfl rfl (src := (slot0 bM)) (dst := (slot1 bM)) qR (bF X c) fb (bF X (prv c)) (read_b_slot1 X c) ((credit_x _).trans amt_13.symm) (amt_9.trans amt_13.symm) .rfl .rfl) $$ [b0R bP1 sn5 HO]
  · isplitr; · iapply (known_recs X Wt K c); iexact HK
    isplitr; · iapply (known_self X Wt K c); iexact HK
    isplitr; · iapply (known_prv X Wt K c); iexact HK
    isplitl [sn5]; · iexact sn5
    isplitl [b0R]; · iexact b0R
    isplitl [bP1]; · iexact bP1
    iexact HO
  iintro ⟨rc9, HO⟩
  iapply Hk
  isplitl [dn20]; · iexact dn20
  isplitl [l]; · iexact l
  isplitl [dn17]; · iexact dn17
  isplitl [W1]; · iexact W1
  isplitl [dn21]; · iexact dn21
  isplitl [r]; · iexact r
  isplitl [a0L]; · iexact a0L
  isplitl [b0L]; · iexact b0L
  isplitl [rc1]; · iexact rc1
  isplitl [rc9]; · iexact rc9
  iexact HO

end Runs

end Cert.RingK
-- ==== Proof.RunB.lean ====
/-
# The body in the second step of the ring
-/
module

public import proofs.«01_k».proof.Proof.Known

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

section Runs
variable (X : XC F) (Wt : WC F) (K : GSem nD τ sig → ℕ) (c : Dev nD)

theorem part5_run {α : Type} {Q : α → sProp 𝕄} (fd : (cc0_scratch4 : Ref sig .tc).ty.Contents (Elt F)) (fe : (cc0_scratch4 : Ref sig .tc).ty.Contents (Elt F)) (o : OC F) (v5 : BitVec 32) (v7 : BitVec 32) {k : FVec F S2048x2048 .f32 → Prog (TpuEff nD τ sig (Elt F) Λ₀ .tc) α} :
    iprop(known X Wt K c ∗ pts lM c fullShare (lF Wt c) ∗ pts rM c fullShare (rF Wt c) ∗ pts (colL dM) (nxt c) fullShare fd ∗ sndP c 6 ∗ pts (colR dM) (prv c) fullShare fe ∗ sndP c 7 ∗ pts (slot0 aM) c qL (aF X c) ∗ owesE c (debt c 6) ∗ pts oM c fullShare o)
      ⊢ iprop(((pts lM c qL (lF Wt c) ∗ pts (colR lM) c qR (lF Wt c) ∗ pts rM c qL (rF Wt c) ∗ pts (colL rM) c qR (rF Wt c) ∗ rcvP c 18 ∗ rcvP c 19 ∗ pts (slot0 aM) c qL (aF X c) ∗ owesE c (debt c 4) ∗ pts oM c fullShare (st1 X Wt c o)) -∗ wp frame (wpE (defs₀ (F := F)) 𝒱₀ (c : Thread nD τ) none) Set.univ (k (k0_pay3 ((oM.access rBot).read (Elt F) (st1 X Wt c o)))) Q)
        -∗ wp frame (wpE (defs₀ (F := F)) 𝒱₀ (c : Thread nD τ) none) Set.univ (k0_part5 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 c v5 v7 >>= k) Q) := by
  rw [k0_part5_eq_skeleton]
  unfold k0_part5_skel
  simp only [smemLoad, smemLoadElt, bind_assoc, Prog.bind_lift, Prog.bind_op, pure_bind]
  iintro ⟨#HK, l, r, dN, sn6, dP, sn7, a0L, HO, O⟩ Hk
  ihave l := (share_two fullShare).1 $$ l
  icases l with ⟨lL, lR⟩
  ihave lR := (split_l c qR (lF Wt c)).1 $$ lR
  icases lR with ⟨lRL, lRR⟩
  ihave r := (share_two fullShare).1 $$ r
  icases r with ⟨rL, rR⟩
  ihave rR := (split_r c qR (rF Wt c)).1 $$ rR
  icases rR with ⟨rRL, rRR⟩
  iapply (step_send X Wt K c 6 5 rfl (c' := nxt c) rfl (dev9_eq c) rfl rfl (src := (colL lM)) (dst := (colL dM)) qR (lF Wt c) fd (dF Wt (nxt c)) (read_dL Wt c) ((credit_h _).trans amt_22.symm) (amt_18.trans amt_22.symm) .rfl .rfl) $$ [lRL dN sn6 HO]
  · isplitr; · iapply (known_recs X Wt K c); iexact HK
    isplitr; · iapply (known_self X Wt K c); iexact HK
    isplitr; · iapply (known_nxt X Wt K c); iexact HK
    isplitl [sn6]; · iexact sn6
    isplitl [lRL]; · iexact lRL
    isplitl [dN]; · iexact dN
    iexact HO
  iintro ⟨rc18, HO⟩
  iapply (step_send X Wt K c 7 4 rfl (c' := prv c) rfl (dev10_eq c) rfl rfl (src := (colR rM)) (dst := (colR dM)) qR (rF Wt c) fe (dF Wt (prv c)) (read_dR Wt c) ((credit_h _).trans amt_23.symm) (amt_19.trans amt_23.symm) .rfl .rfl) $$ [rRR dP sn7 HO]
  · isplitr; · iapply (known_recs X Wt K c); iexact HK
    isplitr; · iapply (known_self X Wt K c); iexact HK
    isplitr; · iapply (known_prv X Wt K c); iexact HK
    isplitl [sn7]; · iexact sn7
    isplitl [rRR]; · iexact rRR
    isplitl [dP]; · iexact dP
    iexact HO
  iintro ⟨rc19, HO⟩
  iapply (wp_load_rect 𝒱₀ (c : Thread nD τ) none Set.univ (m := oM) (r := rTop) (S := oM.view.set) (q := fullShare) (f := o) (View.set_slice_subset _ _)) $$ O
  iintro O
  iapply (wp_load_rect 𝒱₀ (c : Thread nD τ) none Set.univ (m := aM) (r := rs0) (S := (slot0 aM).view.set) (q := qL) (f := (aF X c)) (inc_slot0 aM)) $$ a0L
  iintro a0L
  iapply (wp_load_rect 𝒱₀ (c : Thread nD τ) none Set.univ (m := lM) (r := rW) (S := lM.view.set) (q := qL) (f := (lF Wt c)) (View.set_slice_subset _ _)) $$ lL
  iintro lL
  iapply (wp_load_rect 𝒱₀ (c : Thread nD τ) none Set.univ (m := oM) (r := rTop) (S := oM.view.set) (q := fullShare) (f := o) (View.set_slice_subset _ _)) $$ O
  iintro O
  iapply (step_store c (r := rTop) o (st1 X Wt c o) rfl) $$ O
  iintro O
  iapply (wp_load_rect 𝒱₀ (c : Thread nD τ) none Set.univ (m := oM) (r := rBot) (S := oM.view.set) (q := fullShare) (f := (st1 X Wt c o)) (View.set_slice_subset _ _)) $$ O
  iintro O
  iapply Hk
  isplitl [lL]; · iexact lL
  isplitl [lRR]; · iexact lRR
  isplitl [rL]; · iexact rL
  isplitl [rRL]; · iexact rRL
  isplitl [rc18]; · iexact rc18
  isplitl [rc19]; · iexact rc19
  isplitl [a0L]; · iexact a0L
  isplitl [HO]; · iexact HO
  iexact O

theorem part6_run {α : Type} {Q : α → sProp 𝕄} (o : OC F) (v130 : FVec F S2048x2048 .f32) (v7 : BitVec 32) {k : PUnit → Prog (TpuEff nD τ sig (Elt F) Λ₀ .tc) α} :
    iprop(known X Wt K c ∗ pts (slot0 bM) c qL (bF X c) ∗ pts rM c qL (rF Wt c) ∗ rcvP c 1 ∗ rcvP c 5 ∗ owesE c (debt c 4) ∗ pts oM c fullShare o)
      ⊢ iprop(((pts (slot0 bM) c qL (bF X c) ∗ pts rM c qL (rF Wt c) ∗ done c 1 ∗ pts (slot0 aM) c qR (aF X c) ∗ done c 5 ∗ pts (slot1 aM) c fullShare (aF X c) ∗ owesE c (debt c 4) ∗ pts oM c fullShare (st2 X Wt c o v130)) -∗ wp frame (wpE (defs₀ (F := F)) 𝒱₀ (c : Thread nD τ) none) Set.univ (k ⟨⟩) Q)
        -∗ wp frame (wpE (defs₀ (F := F)) 𝒱₀ (c : Thread nD τ) none) Set.univ (k0_part6 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 v7 v130 >>= k) Q) := by
  rw [k0_part6_eq_skeleton]
  unfold k0_part6_skel
  simp only [smemLoad, smemLoadElt, bind_assoc, Prog.bind_lift, Prog.bind_op, pure_bind]
  iintro ⟨#HK, b0L, rL, rc1, rc5, HO, O⟩ Hk
  iapply (wp_load_rect 𝒱₀ (c : Thread nD τ) none Set.univ (m := bM) (r := rs0) (S := (slot0 bM).view.set) (q := qL) (f := (bF X c)) (inc_slot0 bM)) $$ b0L
  iintro b0L
  iapply (wp_load_rect 𝒱₀ (c : Thread nD τ) none Set.univ (m := rM) (r := rW) (S := rM.view.set) (q := qL) (f := (rF Wt c)) (View.set_slice_subset _ _)) $$ rL
  iintro rL
  iapply (wp_load_rect 𝒱₀ (c : Thread nD τ) none Set.univ (m := oM) (r := rBot) (S := oM.view.set) (q := fullShare) (f := o) (View.set_slice_subset _ _)) $$ O
  iintro O
  iapply (step_store c (r := rBot) o (st2 X Wt c o v130) rfl) $$ O
  iintro O
  iapply (step_wait X Wt K c 1 rfl ((credit_x _).trans amt_1.symm) (debt c 4) (mayWait_debt c _ 4 (by decide))) $$ [rc1 HO]
  · isplitr; · iapply (known_recs X Wt K c); iexact HK
    isplitr; · iapply (known_lev X Wt K c); iexact HK
    isplitl [rc1]; · iexact rc1
    iexact HO
  iintro ⟨dn1, a0R, HO⟩
  ihave a0R := (Entails.of_eq (show payQ X Wt c (4 + ((1 : Fin 24) : ℕ)) = pts (slot0 aM) c qR (aF X c) from rfl)) $$ a0R
  iapply (step_wait X Wt K c 5 rfl ((credit_x _).trans amt_5.symm) (debt c 4) (mayWait_debt c _ 4 (by decide))) $$ [rc5 HO]
  · isplitr; · iapply (known_recs X Wt K c); iexact HK
    isplitr; · iapply (known_lev X Wt K c); iexact HK
    isplitl [rc5]; · iexact rc5
    iexact HO
  iintro ⟨dn5, a1, HO⟩
  ihave a1 := (Entails.of_eq (show payQ X Wt c (4 + ((5 : Fin 24) : ℕ)) = pts (slot1 aM) c fullShare (aF X c) from rfl)) $$ a1
  iapply Hk
  isplitl [b0L]; · iexact b0L
  isplitl [rL]; · iexact rL
  isplitl [dn1]; · iexact dn1
  isplitl [a0R]; · iexact a0R
  isplitl [dn5]; · iexact dn5
  isplitl [a1]; · iexact a1
  isplitl [HO]; · iexact HO
  iexact O

theorem part7_run {α : Type} {Q : α → sProp 𝕄} (v5 : BitVec 32) (v7 : BitVec 32) {k : PUnit → Prog (TpuEff nD τ sig (Elt F) Λ₀ .tc) α} :
    iprop(known X Wt K c ∗ rcvP c 9 ∗ rcvP c 13 ∗ rcvP c 18 ∗ rcvP c 22 ∗ owesE c (debt c 4))
      ⊢ iprop(((done c 9 ∗ pts (slot0 bM) c qR (bF X c) ∗ done c 13 ∗ pts (slot1 bM) c fullShare (bF X c) ∗ done c 18 ∗ pts (colL lM) c qR (lF Wt c) ∗ done c 22 ∗ pts (colL dM) c fullShare (dF Wt c) ∗ owesE c (debt c 4)) -∗ wp frame (wpE (defs₀ (F := F)) 𝒱₀ (c : Thread nD τ) none) Set.univ (k ⟨⟩) Q)
        -∗ wp frame (wpE (defs₀ (F := F)) 𝒱₀ (c : Thread nD τ) none) Set.univ (k0_part7 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 v5 v7 >>= k) Q) := by
  rw [k0_part7_eq_skeleton]
  unfold k0_part7_skel
  simp only [smemLoad, smemLoadElt, bind_assoc, Prog.bind_lift, Prog.bind_op, pure_bind]
  iintro ⟨#HK, rc9, rc13, rc18, rc22, HO⟩ Hk
  iapply (step_wait X Wt K c 9 rfl ((credit_x _).trans amt_9.symm) (debt c 4) (mayWait_debt c _ 4 (by decide))) $$ [rc9 HO]
  · isplitr; · iapply (known_recs X Wt K c); iexact HK
    isplitr; · iapply (known_lev X Wt K c); iexact HK
    isplitl [rc9]; · iexact rc9
    iexact HO
  iintro ⟨dn9, b0R, HO⟩
  ihave b0R := (Entails.of_eq (show payQ X Wt c (4 + ((9 : Fin 24) : ℕ)) = pts (slot0 bM) c qR (bF X c) from rfl)) $$ b0R
  iapply (step_wait X Wt K c 13 rfl ((credit_x _).trans amt_13.symm) (debt c 4) (mayWait_debt c _ 4 (by decide))) $$ [rc13 HO]
  · isplitr; · iapply (known_recs X Wt K c); iexact HK
    isplitr; · iapply (known_lev X Wt K c); iexact HK
    isplitl [rc13]; · iexact rc13
    iexact HO
  iintro ⟨dn13, b1, HO⟩
  ihave b1 := (Entails.of_eq (show payQ X Wt c (4 + ((13 : Fin 24) : ℕ)) = pts (slot1 bM) c fullShare (bF X c) from rfl)) $$ b1
  iapply (step_wait X Wt K c 18 rfl ((credit_h _).trans amt_18.symm) (debt c 4) (mayWait_debt c _ 4 (by decide))) $$ [rc18 HO]
  · isplitr; · iapply (known_recs X Wt K c); iexact HK
    isplitr; · iapply (known_lev X Wt K c); iexact HK
    isplitl [rc18]; · iexact rc18
    iexact HO
  iintro ⟨dn18, lRL, HO⟩
  ihave lRL := (Entails.of_eq (show payQ X Wt c (4 + ((18 : Fin 24) : ℕ)) = pts (colL lM) c qR (lF Wt c) from rfl)) $$ lRL
  iapply (step_wait X Wt K c 22 rfl ((credit_h _).trans amt_22.symm) (debt c 4) (mayWait_debt c _ 4 (by decide))) $$ [rc22 HO]
  · isplitr; · iapply (known_recs X Wt K c); iexact HK
    isplitr; · iapply (known_lev X Wt K c); iexact HK
    isplitl [rc22]; · iexact rc22
    iexact HO
  iintro ⟨dn22, dL, HO⟩
  ihave dL := (Entails.of_eq (show payQ X Wt c (4 + ((22 : Fin 24) : ℕ)) = pts (colL dM) c fullShare (dF Wt c) from rfl)) $$ dL
  iapply Hk
  isplitl [dn9]; · iexact dn9
  isplitl [b0R]; · iexact b0R
  isplitl [dn13]; · iexact dn13
  isplitl [b1]; · iexact b1
  isplitl [dn18]; · iexact dn18
  isplitl [lRL]; · iexact lRL
  isplitl [dn22]; · iexact dn22
  isplitl [dL]; · iexact dL
  iexact HO

theorem part8_run {α : Type} {Q : α → sProp 𝕄} (fa : (cc0_scratch0 : Ref sig .tc).ty.Contents (Elt F)) (fb : (cc0_scratch1 : Ref sig .tc).ty.Contents (Elt F)) (v5 : BitVec 32) (v7 : BitVec 32) {k : PUnit → Prog (TpuEff nD τ sig (Elt F) Λ₀ .tc) α} :
    iprop(known X Wt K c ∗ rcvP c 19 ∗ rcvP c 23 ∗ pts (slot1 aM) c fullShare (aF X c) ∗ pts (slot1 bM) c fullShare (bF X c) ∗ pts (slot2A aM) (nxt c) fullShare fa ∗ sndP c 8 ∗ pts (slot2A bM) (prv c) fullShare fb ∗ sndP c 9 ∗ owesE c (debt c 4))
      ⊢ iprop(((done c 19 ∗ pts (colR rM) c qR (rF Wt c) ∗ done c 23 ∗ pts (colR dM) c fullShare (dF Wt c) ∗ pts (slot1 aM) c qL (aF X c) ∗ pts (slot1 bM) c qL (bF X c) ∗ pts (slot1B aM) c qR (aF X c) ∗ pts (slot1B bM) c qR (bF X c) ∗ rcvP c 2 ∗ rcvP c 10 ∗ owesE c (debt c 2)) -∗ wp frame (wpE (defs₀ (F := F)) 𝒱₀ (c : Thread nD τ) none) Set.univ (k ⟨⟩) Q)
        -∗ wp frame (wpE (defs₀ (F := F)) 𝒱₀ (c : Thread nD τ) none) Set.univ (k0_part8 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 c v5 v7 >>= k) Q) := by
  rw [k0_part8_eq_skeleton]
  unfold k0_part8_skel
  simp only [smemLoad, smemLoadElt, bind_assoc, Prog.bind_lift, Prog.bind_op, pure_bind]
  iintro ⟨#HK, rc19, rc23, a1, b1, aN2A, sn8, bP2A, sn9, HO⟩ Hk
  iapply (step_wait X Wt K c 19 rfl ((credit_h _).trans amt_19.symm) (debt c 4) (mayWait_debt c _ 4 (by decide))) $$ [rc19 HO]
  · isplitr; · iapply (known_recs X Wt K c); iexact HK
    isplitr; · iapply (known_lev X Wt K c); iexact HK
    isplitl [rc19]; · iexact rc19
    iexact HO
  iintro ⟨dn19, rRR, HO⟩
  ihave rRR := (Entails.of_eq (show payQ X Wt c (4 + ((19 : Fin 24) : ℕ)) = pts (colR rM) c qR (rF Wt c) from rfl)) $$ rRR
  iapply (step_wait X Wt K c 23 rfl ((credit_h _).trans amt_23.symm) (debt c 4) (mayWait_debt c _ 4 (by decide))) $$ [rc23 HO]
  · isplitr; · iapply (known_recs X Wt K c); iexact HK
    isplitr; · iapply (known_lev X Wt K c); iexact HK
    isplitl [rc23]; · iexact rc23
    iexact HO
  iintro ⟨dn23, dR, HO⟩
  ihave dR := (Entails.of_eq (show payQ X Wt c (4 + ((23 : Fin 24) : ℕ)) = pts (colR dM) c fullShare (dF Wt c) from rfl)) $$ dR
  ihave a1 := (share_two fullShare).1 $$ a1
  icases a1 with ⟨a1L, a1R⟩
  ihave b1 := (share_two fullShare).1 $$ b1
  icases b1 with ⟨b1L, b1R⟩
  ihave a1R := (split_a1 c qR (aF X c)).1 $$ a1R
  icases a1R with ⟨a1AR, a1BR⟩
  ihave b1R := (split_b1 c qR (bF X c)).1 $$ b1R
  icases b1R with ⟨b1AR, b1BR⟩
  iapply (step_send X Wt K c 8 3 rfl (c' := nxt c) rfl (dev11_eq c) rfl rfl (src := (slot1A aM)) (dst := (slot2A aM)) qR (aF X c) fa (aF X (nxt c)) (read_a_slot2A X c) ((credit_h _).trans amt_6.symm) (amt_2.trans amt_6.symm) .rfl .rfl) $$ [a1AR aN2A sn8 HO]
  · isplitr; · iapply (known_recs X Wt K c); iexact HK
    isplitr; · iapply (known_self X Wt K c); iexact HK
    isplitr; · iapply (known_nxt X Wt K c); iexact HK
    isplitl [sn8]; · iexact sn8
    isplitl [a1AR]; · iexact a1AR
    isplitl [aN2A]; · iexact aN2A
    iexact HO
  iintro ⟨rc2, HO⟩
  iapply (step_send X Wt K c 9 2 rfl (c' := prv c) rfl (dev12_eq c) rfl rfl (src := (slot1A bM)) (dst := (slot2A bM)) qR (bF X c) fb (bF X (prv c)) (read_b_slot2A X c) ((credit_h _).trans amt_14.symm) (amt_10.trans amt_14.symm) .rfl .rfl) $$ [b1AR bP2A sn9 HO]
  · isplitr; · iapply (known_recs X Wt K c); iexact HK
    isplitr; · iapply (known_self X Wt K c); iexact HK
    isplitr; · iapply (known_prv X Wt K c); iexact HK
    isplitl [sn9]; · iexact sn9
    isplitl [b1AR]; · iexact b1AR
    isplitl [bP2A]; · iexact bP2A
    iexact HO
  iintro ⟨rc10, HO⟩
  iapply Hk
  isplitl [dn19]; · iexact dn19
  isplitl [rRR]; · iexact rRR
  isplitl [dn23]; · iexact dn23
  isplitl [dR]; · iexact dR
  isplitl [a1L]; · iexact a1L
  isplitl [b1L]; · iexact b1L
  isplitl [a1BR]; · iexact a1BR
  isplitl [b1BR]; · iexact b1BR
  isplitl [rc2]; · iexact rc2
  isplitl [rc10]; · iexact rc10
  iexact HO

end Runs

end Cert.RingK
-- ==== Proof.RunC.lean ====
/-
# The body in the last step of the ring
-/
module

public import proofs.«01_k».proof.Proof.Known

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

section Runs
variable (X : XC F) (Wt : WC F) (K : GSem nD τ sig → ℕ) (c : Dev nD)

theorem part9_run {α : Type} {Q : α → sProp 𝕄} (fa : (cc0_scratch0 : Ref sig .tc).ty.Contents (Elt F)) (fb : (cc0_scratch1 : Ref sig .tc).ty.Contents (Elt F)) (o : OC F) (v5 : BitVec 32) (v7 : BitVec 32) {k : PUnit → Prog (TpuEff nD τ sig (Elt F) Λ₀ .tc) α} :
    iprop(known X Wt K c ∗ pts (slot1B aM) c qR (aF X c) ∗ pts (slot2B aM) (nxt c) fullShare fa ∗ sndP c 10 ∗ pts (slot1B bM) c qR (bF X c) ∗ pts (slot2B bM) (prv c) fullShare fb ∗ sndP c 11 ∗ pts (colL dM) c fullShare (dF Wt c) ∗ pts (colR dM) c fullShare (dF Wt c) ∗ pts (slot1 aM) c qL (aF X c) ∗ owesE c (debt c 2) ∗ pts oM c fullShare o)
      ⊢ iprop(((rcvP c 3 ∗ rcvP c 11 ∗ pts dM c fullShare (dF Wt c) ∗ pts (slot1 aM) c qL (aF X c) ∗ owesE c (debt c 0) ∗ pts oM c fullShare (st3 X Wt c o)) -∗ wp frame (wpE (defs₀ (F := F)) 𝒱₀ (c : Thread nD τ) none) Set.univ (k ⟨⟩) Q)
        -∗ wp frame (wpE (defs₀ (F := F)) 𝒱₀ (c : Thread nD τ) none) Set.univ (k0_part9 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 c v5 v7 >>= k) Q) := by
  rw [k0_part9_eq_skeleton]
  unfold k0_part9_skel
  simp only [smemLoad, smemLoadElt, bind_assoc, Prog.bind_lift, Prog.bind_op, pure_bind]
  iintro ⟨#HK, a1BR, aN2B, sn10, b1BR, bP2B, sn11, dL, dR, a1L, HO, O⟩ Hk
  iapply (step_send X Wt K c 10 1 rfl (c' := nxt c) rfl (dev13_eq c) rfl rfl (src := (slot1B aM)) (dst := (slot2B aM)) qR (aF X c) fa (aF X (nxt c)) (read_a_slot2B X c) ((credit_h _).trans amt_7.symm) (amt_3.trans amt_7.symm) .rfl .rfl) $$ [a1BR aN2B sn10 HO]
  · isplitr; · iapply (known_recs X Wt K c); iexact HK
    isplitr; · iapply (known_self X Wt K c); iexact HK
    isplitr; · iapply (known_nxt X Wt K c); iexact HK
    isplitl [sn10]; · iexact sn10
    isplitl [a1BR]; · iexact a1BR
    isplitl [aN2B]; · iexact aN2B
    iexact HO
  iintro ⟨rc3, HO⟩
  iapply (step_send X Wt K c 11 0 rfl (c' := prv c) rfl (dev14_eq c) rfl rfl (src := (slot1B bM)) (dst := (slot2B bM)) qR (bF X c) fb (bF X (prv c)) (read_b_slot2B X c) ((credit_h _).trans amt_15.symm) (amt_11.trans amt_15.symm) .rfl .rfl) $$ [b1BR bP2B sn11 HO]
  · isplitr; · iapply (known_recs X Wt K c); iexact HK
    isplitr; · iapply (known_self X Wt K c); iexact HK
    isplitr; · iapply (known_prv X Wt K c); iexact HK
    isplitl [sn11]; · iexact sn11
    isplitl [b1BR]; · iexact b1BR
    isplitl [bP2B]; · iexact bP2B
    iexact HO
  iintro ⟨rc11, HO⟩
  ihave D := (split_d c fullShare (dF Wt c)).2 $$ [dL dR]
  · isplitl [dL]; · iexact dL
    iexact dR
  iapply (wp_load_rect 𝒱₀ (c : Thread nD τ) none Set.univ (m := oM) (r := rTop) (S := oM.view.set) (q := fullShare) (f := o) (View.set_slice_subset _ _)) $$ O
  iintro O
  iapply (wp_load_rect 𝒱₀ (c : Thread nD τ) none Set.univ (m := aM) (r := rs1) (S := (slot1 aM).view.set) (q := qL) (f := (aF X c)) (inc_slot1 aM)) $$ a1L
  iintro a1L
  iapply (wp_load_rect 𝒱₀ (c : Thread nD τ) none Set.univ (m := dM) (r := rW) (S := dM.view.set) (q := fullShare) (f := (dF Wt c)) (View.set_slice_subset _ _)) $$ D
  iintro D
  iapply (wp_load_rect 𝒱₀ (c : Thread nD τ) none Set.univ (m := oM) (r := rTop) (S := oM.view.set) (q := fullShare) (f := o) (View.set_slice_subset _ _)) $$ O
  iintro O
  iapply (step_store c (r := rTop) o (st3 X Wt c o) rfl) $$ O
  iintro O
  iapply Hk
  isplitl [rc3]; · iexact rc3
  isplitl [rc11]; · iexact rc11
  isplitl [D]; · iexact D
  isplitl [a1L]; · iexact a1L
  isplitl [HO]; · iexact HO
  iexact O

theorem part10_run {α : Type} {Q : α → sProp 𝕄} (o : OC F) (v7 : BitVec 32) {k : PUnit → Prog (TpuEff nD τ sig (Elt F) Λ₀ .tc) α} :
    iprop(known X Wt K c ∗ pts (slot1 bM) c qL (bF X c) ∗ pts dM c fullShare (dF Wt c) ∗ rcvP c 2 ∗ rcvP c 6 ∗ owesE c (debt c 0) ∗ pts oM c fullShare o)
      ⊢ iprop(((pts (slot1 bM) c qL (bF X c) ∗ pts dM c fullShare (dF Wt c) ∗ done c 2 ∗ pts (slot1A aM) c qR (aF X c) ∗ done c 6 ∗ pts (slot2A aM) c fullShare (aF X c) ∗ owesE c (debt c 0) ∗ pts oM c fullShare (st4 X Wt c o)) -∗ wp frame (wpE (defs₀ (F := F)) 𝒱₀ (c : Thread nD τ) none) Set.univ (k ⟨⟩) Q)
        -∗ wp frame (wpE (defs₀ (F := F)) 𝒱₀ (c : Thread nD τ) none) Set.univ (k0_part10 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 v7 >>= k) Q) := by
  rw [k0_part10_eq_skeleton]
  unfold k0_part10_skel
  simp only [smemLoad, smemLoadElt, bind_assoc, Prog.bind_lift, Prog.bind_op, pure_bind]
  iintro ⟨#HK, b1L, D, rc2, rc6, HO, O⟩ Hk
  iapply (wp_load_rect 𝒱₀ (c : Thread nD τ) none Set.univ (m := oM) (r := rBot) (S := oM.view.set) (q := fullShare) (f := o) (View.set_slice_subset _ _)) $$ O
  iintro O
  iapply (wp_load_rect 𝒱₀ (c : Thread nD τ) none Set.univ (m := bM) (r := rs1) (S := (slot1 bM).view.set) (q := qL) (f := (bF X c)) (inc_slot1 bM)) $$ b1L
  iintro b1L
  iapply (wp_load_rect 𝒱₀ (c : Thread nD τ) none Set.univ (m := dM) (r := rW) (S := dM.view.set) (q := fullShare) (f := (dF Wt c)) (View.set_slice_subset _ _)) $$ D
  iintro D
  iapply (wp_load_rect 𝒱₀ (c : Thread nD τ) none Set.univ (m := oM) (r := rBot) (S := oM.view.set) (q := fullShare) (f := o) (View.set_slice_subset _ _)) $$ O
  iintro O
  iapply (step_store c (r := rBot) o (st4 X Wt c o) rfl) $$ O
  iintro O
  iapply (step_wait X Wt K c 2 rfl ((credit_h _).trans amt_2.symm) (debt c 0) (mayWait_debt c _ 0 (by decide))) $$ [rc2 HO]
  · isplitr; · iapply (known_recs X Wt K c); iexact HK
    isplitr; · iapply (known_lev X Wt K c); iexact HK
    isplitl [rc2]; · iexact rc2
    iexact HO
  iintro ⟨dn2, a1AR, HO⟩
  ihave a1AR := (Entails.of_eq (show payQ X Wt c (4 + ((2 : Fin 24) : ℕ)) = pts (slot1A aM) c qR (aF X c) from rfl)) $$ a1AR
  iapply (step_wait X Wt K c 6 rfl ((credit_h _).trans amt_6.symm) (debt c 0) (mayWait_debt c _ 0 (by decide))) $$ [rc6 HO]
  · isplitr; · iapply (known_recs X Wt K c); iexact HK
    isplitr; · iapply (known_lev X Wt K c); iexact HK
    isplitl [rc6]; · iexact rc6
    iexact HO
  iintro ⟨dn6, a2A, HO⟩
  ihave a2A := (Entails.of_eq (show payQ X Wt c (4 + ((6 : Fin 24) : ℕ)) = pts (slot2A aM) c fullShare (aF X c) from rfl)) $$ a2A
  iapply Hk
  isplitl [b1L]; · iexact b1L
  isplitl [D]; · iexact D
  isplitl [dn2]; · iexact dn2
  isplitl [a1AR]; · iexact a1AR
  isplitl [dn6]; · iexact dn6
  isplitl [a2A]; · iexact a2A
  isplitl [HO]; · iexact HO
  iexact O

theorem part11_run {α : Type} {Q : α → sProp 𝕄} (s : SC F) (o : OC F) (v5 : BitVec 32) {k : (Σ' (_ : Elt F .f32) (_ : FVec F S1024x2048 .f32), FVec F S1024x1024 .fp8e4m3) → Prog (TpuEff nD τ sig (Elt F) Λ₀ .tc) α} :
    iprop(known X Wt K c ∗ rcvP c 10 ∗ rcvP c 14 ∗ pts sM c fullShare s ∗ pts (slot2A aM) c fullShare (aF X c) ∗ pts rM c qL (rF Wt c) ∗ owesE c (debt c 0) ∗ pts oM c fullShare o)
      ⊢ iprop(((done c 10 ∗ pts (slot1A bM) c qR (bF X c) ∗ done c 14 ∗ pts (slot2A bM) c fullShare (bF X c) ∗ pts sM c fullShare s ∗ pts (slot2A aM) c fullShare (aF X c) ∗ pts rM c qL (rF Wt c) ∗ owesE c (debt c 0) ∗ pts oM c fullShare (st5 X Wt c o (scal s))) -∗ wp frame (wpE (defs₀ (F := F)) 𝒱₀ (c : Thread nD τ) none) Set.univ (k ⟨scal s, k0_pay8 ((oM.access rQ2).read (Elt F) (st5 X Wt c o (scal s))), k0_pay9 ((bM.access rs2A).read (Elt F) (bF X c))⟩) Q)
        -∗ wp frame (wpE (defs₀ (F := F)) 𝒱₀ (c : Thread nD τ) none) Set.univ (k0_part11 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 v5 >>= k) Q) := by
  rw [k0_part11_eq_skeleton]
  unfold k0_part11_skel
  simp only [smemLoad, smemLoadElt, bind_assoc, Prog.bind_lift, Prog.bind_op, pure_bind]
  iintro ⟨#HK, rc10, rc14, S, a2A, rL, HO, O⟩ Hk
  iapply (step_wait X Wt K c 10 rfl ((credit_h _).trans amt_10.symm) (debt c 0) (mayWait_debt c _ 0 (by decide))) $$ [rc10 HO]
  · isplitr; · iapply (known_recs X Wt K c); iexact HK
    isplitr; · iapply (known_lev X Wt K c); iexact HK
    isplitl [rc10]; · iexact rc10
    iexact HO
  iintro ⟨dn10, b1AR, HO⟩
  ihave b1AR := (Entails.of_eq (show payQ X Wt c (4 + ((10 : Fin 24) : ℕ)) = pts (slot1A bM) c qR (bF X c) from rfl)) $$ b1AR
  iapply (step_wait X Wt K c 14 rfl ((credit_h _).trans amt_14.symm) (debt c 0) (mayWait_debt c _ 0 (by decide))) $$ [rc14 HO]
  · isplitr; · iapply (known_recs X Wt K c); iexact HK
    isplitr; · iapply (known_lev X Wt K c); iexact HK
    isplitl [rc14]; · iexact rc14
    iexact HO
  iintro ⟨dn14, b2A, HO⟩
  ihave b2A := (Entails.of_eq (show payQ X Wt c (4 + ((14 : Fin 24) : ℕ)) = pts (slot2A bM) c fullShare (bF X c) from rfl)) $$ b2A
  iapply (wp_load_rect 𝒱₀ (c : Thread nD τ) none Set.univ (m := sM) (r := rS) (S := sM.view.set) (q := fullShare) (f := s) (View.set_slice_subset _ _)) $$ S
  iintro S
  iapply (wp_load_rect 𝒱₀ (c : Thread nD τ) none Set.univ (m := oM) (r := rQ0) (S := oM.view.set) (q := fullShare) (f := o) (View.set_slice_subset _ _)) $$ O
  iintro O
  iapply (wp_load_rect 𝒱₀ (c : Thread nD τ) none Set.univ (m := aM) (r := rs2A) (S := (slot2A aM).view.set) (q := fullShare) (f := (aF X c)) (inc_slot2A aM)) $$ a2A
  iintro a2A
  iapply (wp_load_rect 𝒱₀ (c : Thread nD τ) none Set.univ (m := rM) (r := rW) (S := rM.view.set) (q := qL) (f := (rF Wt c)) (View.set_slice_subset _ _)) $$ rL
  iintro rL
  iapply (wp_load_rect 𝒱₀ (c : Thread nD τ) none Set.univ (m := oM) (r := rQ0) (S := oM.view.set) (q := fullShare) (f := o) (View.set_slice_subset _ _)) $$ O
  iintro O
  iapply (step_store c (r := rQ0) o (st5 X Wt c o (scal s)) rfl) $$ O
  iintro O
  iapply (wp_load_rect 𝒱₀ (c : Thread nD τ) none Set.univ (m := oM) (r := rQ2) (S := oM.view.set) (q := fullShare) (f := (st5 X Wt c o (scal s))) (View.set_slice_subset _ _)) $$ O
  iintro O
  iapply (wp_load_rect 𝒱₀ (c : Thread nD τ) none Set.univ (m := bM) (r := rs2A) (S := (slot2A bM).view.set) (q := fullShare) (f := (bF X c)) (inc_slot2A bM)) $$ b2A
  iintro b2A
  iapply Hk
  isplitl [dn10]; · iexact dn10
  isplitl [b1AR]; · iexact b1AR
  isplitl [dn14]; · iexact dn14
  isplitl [b2A]; · iexact b2A
  isplitl [S]; · iexact S
  isplitl [a2A]; · iexact a2A
  isplitl [rL]; · iexact rL
  isplitl [HO]; · iexact HO
  iexact O

theorem part12_run {α : Type} {Q : α → sProp 𝕄} (o : OC F) (v269 : Elt F .f32) (v281 : FVec F S1024x2048 .f32) (v283 : FVec F S1024x1024 .fp8e4m3) (v7 : BitVec 32) {k : PUnit → Prog (TpuEff nD τ sig (Elt F) Λ₀ .tc) α} :
    iprop(known X Wt K c ∗ pts lM c qL (lF Wt c) ∗ rcvP c 3 ∗ rcvP c 7 ∗ owesE c (debt c 0) ∗ pts oM c fullShare o)
      ⊢ iprop(((pts lM c qL (lF Wt c) ∗ done c 3 ∗ pts (slot1B aM) c qR (aF X c) ∗ done c 7 ∗ pts (slot2B aM) c fullShare (aF X c) ∗ owesE c (debt c 0) ∗ pts oM c fullShare (st6 Wt c o v269 v281 v283)) -∗ wp frame (wpE (defs₀ (F := F)) 𝒱₀ (c : Thread nD τ) none) Set.univ (k ⟨⟩) Q)
        -∗ wp frame (wpE (defs₀ (F := F)) 𝒱₀ (c : Thread nD τ) none) Set.univ (k0_part12 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 v7 v269 v281 v283 >>= k) Q) := by
  rw [k0_part12_eq_skeleton]
  unfold k0_part12_skel
  simp only [smemLoad, smemLoadElt, bind_assoc, Prog.bind_lift, Prog.bind_op, pure_bind]
  iintro ⟨#HK, lL, rc3, rc7, HO, O⟩ Hk
  iapply (wp_load_rect 𝒱₀ (c : Thread nD τ) none Set.univ (m := lM) (r := rW) (S := lM.view.set) (q := qL) (f := (lF Wt c)) (View.set_slice_subset _ _)) $$ lL
  iintro lL
  iapply (wp_load_rect 𝒱₀ (c : Thread nD τ) none Set.univ (m := oM) (r := rQ2) (S := oM.view.set) (q := fullShare) (f := o) (View.set_slice_subset _ _)) $$ O
  iintro O
  iapply (step_store c (r := rQ2) o (st6 Wt c o v269 v281 v283) rfl) $$ O
  iintro O
  iapply (step_wait X Wt K c 3 rfl ((credit_h _).trans amt_3.symm) (debt c 0) (mayWait_debt c _ 0 (by decide))) $$ [rc3 HO]
  · isplitr; · iapply (known_recs X Wt K c); iexact HK
    isplitr; · iapply (known_lev X Wt K c); iexact HK
    isplitl [rc3]; · iexact rc3
    iexact HO
  iintro ⟨dn3, a1BR, HO⟩
  ihave a1BR := (Entails.of_eq (show payQ X Wt c (4 + ((3 : Fin 24) : ℕ)) = pts (slot1B aM) c qR (aF X c) from rfl)) $$ a1BR
  iapply (step_wait X Wt K c 7 rfl ((credit_h _).trans amt_7.symm) (debt c 0) (mayWait_debt c _ 0 (by decide))) $$ [rc7 HO]
  · isplitr; · iapply (known_recs X Wt K c); iexact HK
    isplitr; · iapply (known_lev X Wt K c); iexact HK
    isplitl [rc7]; · iexact rc7
    iexact HO
  iintro ⟨dn7, a2B, HO⟩
  ihave a2B := (Entails.of_eq (show payQ X Wt c (4 + ((7 : Fin 24) : ℕ)) = pts (slot2B aM) c fullShare (aF X c) from rfl)) $$ a2B
  iapply Hk
  isplitl [lL]; · iexact lL
  isplitl [dn3]; · iexact dn3
  isplitl [a1BR]; · iexact a1BR
  isplitl [dn7]; · iexact dn7
  isplitl [a2B]; · iexact a2B
  isplitl [HO]; · iexact HO
  iexact O

theorem part13_run {α : Type} {Q : α → sProp 𝕄} (o : OC F) (v269 : Elt F .f32) (v5 : BitVec 32) {k : FVec F S1024x2048 .f32 → Prog (TpuEff nD τ sig (Elt F) Λ₀ .tc) α} :
    iprop(known X Wt K c ∗ rcvP c 11 ∗ rcvP c 15 ∗ pts (slot2B aM) c fullShare (aF X c) ∗ pts rM c qL (rF Wt c) ∗ pts lM c qL (lF Wt c) ∗ owesE c (debt c 0) ∗ pts oM c fullShare o)
      ⊢ iprop(((done c 11 ∗ pts (slot1B bM) c qR (bF X c) ∗ done c 15 ∗ pts (slot2B bM) c fullShare (bF X c) ∗ pts (slot2B aM) c fullShare (aF X c) ∗ pts rM c qL (rF Wt c) ∗ pts lM c qL (lF Wt c) ∗ owesE c (debt c 0) ∗ pts oM c fullShare (st7 X Wt c o v269)) -∗ wp frame (wpE (defs₀ (F := F)) 𝒱₀ (c : Thread nD τ) none) Set.univ (k (last X Wt c (st7 X Wt c o v269) v269)) Q)
        -∗ wp frame (wpE (defs₀ (F := F)) 𝒱₀ (c : Thread nD τ) none) Set.univ (k0_part13 (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10 v5 v269 >>= k) Q) := by
  rw [k0_part13_eq_skeleton]
  unfold k0_part13_skel
  simp only [smemLoad, smemLoadElt, bind_assoc, Prog.bind_lift, Prog.bind_op, pure_bind]
  iintro ⟨#HK, rc11, rc15, a2B, rL, lL, HO, O⟩ Hk
  iapply (step_wait X Wt K c 11 rfl ((credit_h _).trans amt_11.symm) (debt c 0) (mayWait_debt c _ 0 (by decide))) $$ [rc11 HO]
  · isplitr; · iapply (known_recs X Wt K c); iexact HK
    isplitr; · iapply (known_lev X Wt K c); iexact HK
    isplitl [rc11]; · iexact rc11
    iexact HO
  iintro ⟨dn11, b1BR, HO⟩
  ihave b1BR := (Entails.of_eq (show payQ X Wt c (4 + ((11 : Fin 24) : ℕ)) = pts (slot1B bM) c qR (bF X c) from rfl)) $$ b1BR
  iapply (step_wait X Wt K c 15 rfl ((credit_h _).trans amt_15.symm) (debt c 0) (mayWait_debt c _ 0 (by decide))) $$ [rc15 HO]
  · isplitr; · iapply (known_recs X Wt K c); iexact HK
    isplitr; · iapply (known_lev X Wt K c); iexact HK
    isplitl [rc15]; · iexact rc15
    iexact HO
  iintro ⟨dn15, b2B, HO⟩
  ihave b2B := (Entails.of_eq (show payQ X Wt c (4 + ((15 : Fin 24) : ℕ)) = pts (slot2B bM) c fullShare (bF X c) from rfl)) $$ b2B
  iapply (wp_load_rect 𝒱₀ (c : Thread nD τ) none Set.univ (m := oM) (r := rQ1) (S := oM.view.set) (q := fullShare) (f := o) (View.set_slice_subset _ _)) $$ O
  iintro O
  iapply (wp_load_rect 𝒱₀ (c : Thread nD τ) none Set.univ (m := aM) (r := rs2B) (S := (slot2B aM).view.set) (q := fullShare) (f := (aF X c)) (inc_slot2B aM)) $$ a2B
  iintro a2B
  iapply (wp_load_rect 𝒱₀ (c : Thread nD τ) none Set.univ (m := rM) (r := rW) (S := rM.view.set) (q := qL) (f := (rF Wt c)) (View.set_slice_subset _ _)) $$ rL
  iintro rL
  iapply (wp_load_rect 𝒱₀ (c : Thread nD τ) none Set.univ (m := oM) (r := rQ1) (S := oM.view.set) (q := fullShare) (f := o) (View.set_slice_subset _ _)) $$ O
  iintro O
  iapply (step_store c (r := rQ1) o (st7 X Wt c o v269) rfl) $$ O
  iintro O
  iapply (wp_load_rect 𝒱₀ (c : Thread nD τ) none Set.univ (m := oM) (r := rQ3) (S := oM.view.set) (q := fullShare) (f := (st7 X Wt c o v269)) (View.set_slice_subset _ _)) $$ O
  iintro O
  iapply (wp_load_rect 𝒱₀ (c : Thread nD τ) none Set.univ (m := bM) (r := rs2B) (S := (slot2B bM).view.set) (q := fullShare) (f := (bF X c)) (inc_slot2B bM)) $$ b2B
  iintro b2B
  iapply (wp_load_rect 𝒱₀ (c : Thread nD τ) none Set.univ (m := lM) (r := rW) (S := lM.view.set) (q := qL) (f := (lF Wt c)) (View.set_slice_subset _ _)) $$ lL
  iintro lL
  iapply Hk
  isplitl [dn11]; · iexact dn11
  isplitl [b1BR]; · iexact b1BR
  isplitl [dn15]; · iexact dn15
  isplitl [b2B]; · iexact b2B
  isplitl [a2B]; · iexact a2B
  isplitl [rL]; · iexact rL
  isplitl [lL]; · iexact lL
  isplitl [HO]; · iexact HO
  iexact O

end Runs

end Cert.RingK
-- ==== Proof.Body.lean ====
/-
# The whole body, and its cells closed
-/
module

public import proofs.«01_k».proof.Proof.Start
public import proofs.«01_k».proof.Proof.RunA
public import proofs.«01_k».proof.Proof.RunB
public import proofs.«01_k».proof.Proof.RunC

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

section Body
variable (X : XC F) (Wt : WC F) (K : GSem nD τ sig → ℕ) (c : Dev nD)

/-- The five buffers the transfers land in, at contents not chosen. -/
def scratch : sProp 𝕄 := iprop((∃ f : (cc0_scratch0 : Ref sig .tc).ty.Contents (Elt F), pts aM c fullShare f) ∗ (∃ f : (cc0_scratch1 : Ref sig .tc).ty.Contents (Elt F), pts bM c fullShare f) ∗ (∃ f : (cc0_scratch2 : Ref sig .tc).ty.Contents (Elt F), pts lM c fullShare f) ∗ (∃ f : (cc0_scratch3 : Ref sig .tc).ty.Contents (Elt F), pts rM c fullShare f) ∗ (∃ f : (cc0_scratch4 : Ref sig .tc).ty.Contents (Elt F), pts dM c fullShare f))
/-- What the twelve transfers need. -/
def sndAll : sProp 𝕄 := iprop(sndP c 0 ∗ sndP c 1 ∗ sndP c 2 ∗ sndP c 3 ∗ sndP c 4 ∗ sndP c 5 ∗ sndP c 6 ∗ sndP c 7 ∗ sndP c 8 ∗ sndP c 9 ∗ sndP c 10 ∗ sndP c 11)
/-- What the twelve waits on receive cells need. -/
def rcvAll : sProp 𝕄 := iprop(rcvP c 4 ∗ rcvP c 5 ∗ rcvP c 6 ∗ rcvP c 7 ∗ rcvP c 12 ∗ rcvP c 13 ∗ rcvP c 14 ∗ rcvP c 15 ∗ rcvP c 20 ∗ rcvP c 21 ∗ rcvP c 22 ∗ rcvP c 23)
/-- What the barrier needs. -/
def barAll : sProp 𝕄 :=
  iprop(dutyTok ER (barCell (prv c)) 0 true ∗ dutyTok ER (barCell (nxt c)) 0 false ∗ cred (tallyAt (barCell c) () 2) ∗ atPos ER (barCell c) 0 ∅ 0)
/-- All of a device's DMA cells, their round over. -/
def doneAll : sProp 𝕄 := bigSep (Finset.univ : Finset (Fin 24)) fun k => done c k

theorem doneAll_intro : iprop(done c 0 ∗ done c 1 ∗ done c 2 ∗ done c 3 ∗ done c 4 ∗ done c 5 ∗ done c 6 ∗ done c 7 ∗ done c 8 ∗ done c 9 ∗ done c 10 ∗ done c 11 ∗ done c 12 ∗ done c 13 ∗ done c 14 ∗ done c 15 ∗ done c 16 ∗ done c 17 ∗ done c 18 ∗ done c 19 ∗ done c 20 ∗ done c 21 ∗ done c 22 ∗ done c 23) ⊢ (doneAll c : sProp 𝕄) := by
  unfold doneAll
  rw [bigSep_univ_eq_bigSepL [0, 1, 2, 3, 4, 5, 6, 7, 8, 9, 10, 11, 12, 13, 14, 15, 16, 17, 18, 19, 20, 21, 22, 23] (by decide) (by decide)]
  simp only [bigSepL_cons_cons, bigSepL_singleton]
  exact .rfl

theorem close_one (k : Fin 24) : iprop(recs X Wt K ∗ done c k) ⊢ (|={Set.univ}=> semVal (qCell c k) 0 : sProp 𝕄) := by
  refine BIBase.Entails.trans ?_ (Rounds.cell_close ER (Rd X Wt) (g := qCell c k) (Set.mem_univ (K (qCell c k))) id (duties_later X Wt (qCell c k)))
  unfold done
  iintro ⟨#HR, H⟩
  isplitr; · iapply (recs_q X Wt K c k); iexact HR
  iexact H
theorem close_bar : iprop(recs X Wt K ∗ atPos ER (barCell c) 1 ∅ 0) ⊢ (|={Set.univ}=> semVal (barCell c) 0 : sProp 𝕄) := by
  refine BIBase.Entails.trans ?_ (Rounds.cell_close ER (Rd X Wt) (g := barCell c) (Set.mem_univ (K (barCell c))) id (duties_later X Wt (barCell c)))
  iintro ⟨#HR, H⟩
  isplitr; · iapply (recs_bar X Wt K c); iexact HR
  iexact H
/-- Every DMA cell of the device closed: each counter back in hand, at zero. -/
theorem close_all : iprop(recs X Wt K ∗ doneAll c) ⊢ (|={Set.univ}=> Pipeline.ownSems0 osem c : sProp 𝕄) := by
  refine BIBase.Entails.trans ?_ ((bigSep_mono (s := (Finset.univ : Finset (Fin 24))) fun k _ => close_one X Wt K c k).trans (bigSep_fupd _ _))
  exact bigSep_with_persistent (R := recs X Wt K) (Φ := fun k : Fin 24 => done c k) fun k _ => .rfl

def bodyPre (s : SC F) (o : OC F) : sProp 𝕄 :=
  iprop((recs X Wt K ∗ levAts L lv ∗ opened c) ∗ scratch c ∗ barAll c ∗ sndAll c ∗ rcvAll c
    ∗ pts xM c fullShare (X c) ∗ pts wM c fullShare (Wt c) ∗ pts sM c fullShare s ∗ pts oM c fullShare o ∗ owesE c (O₀ c))
def bodyPost (s : SC F) (o : OC F) : sProp 𝕄 :=
  iprop(semVal (barCell c) 0 ∗ Pipeline.ownSems0 osem c ∗ scratch c
    ∗ pts xM c fullShare (X c) ∗ pts wM c fullShare (Wt c) ∗ pts sM c fullShare s ∗ pts oM c fullShare (outC X Wt c s o) ∗ owesE c 0)

theorem body_run (s : SC F) (o : OC F) (Kt : PUnit → sProp 𝕄) :
    iprop(bodyPre X Wt K c s o) ⊢ iprop((bodyPost X Wt c s o -∗ Kt ⟨⟩)
      -∗ wp frame (wpE (defs₀ (F := F)) 𝒱₀ (c : Thread nD τ) none) Set.univ (cc0_body (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10) Kt) := by
  rw [cc0_body_eq_skeleton]
  unfold cc0_body_skel bodyPre scratch barAll sndAll rcvAll
  iintro ⟨⟨#HR, #Hlev, #Ho⟩, ⟨A, Bb, L, R, D⟩, ⟨TP, TN, cB, atB⟩, ⟨sn0, sn1, sn2, sn3, sn4, sn5, sn6, sn7, sn8, sn9, sn10, sn11⟩, ⟨rc4, rc5, rc6, rc7, rc12, rc13, rc14, rc15, rc20, rc21, rc22, rc23⟩, X, W, S, O, HO⟩ Hk
  iapply (part1_run X Wt K c) $$ [A Bb L R D TP TN cB atB sn0 X W HO]
  · isplitr
    · isplitr; · iexact HR
      isplitr; · iexact Hlev
      iexact Ho
    isplitl [A]; · iexact A
    isplitl [Bb]; · iexact Bb
    isplitl [L]; · iexact L
    isplitl [R]; · iexact R
    isplitl [D]; · iexact D
    isplitl [TP]; · iexact TP
    isplitl [TN]; · iexact TN
    isplitl [cB]; · iexact cB
    isplitl [atB]; · iexact atB
    isplitl [sn0]; · iexact sn0
    isplitl [X]; · iexact X
    isplitl [W]; · iexact W
    iexact HO
  iintro %v5 %v7 %fa %fb %fl %fr %fd %fe ⟨#HK, rc0, HO, atB, XL, XB, WL, W0, W1, aN1, aN2A, aN2B, bP0, bP1, bP2A, bP2B, lN, rP, dN, dP⟩
  iapply (part2_run X Wt K c) $$ [XB bP0 sn1 W0 lN sn2 W1 rP sn3 XL WL rc0 HO O]
  · isplitr; · iexact HK
    isplitl [XB]; · iexact XB
    isplitl [bP0]; · iexact bP0
    isplitl [sn1]; · iexact sn1
    isplitl [W0]; · iexact W0
    isplitl [lN]; · iexact lN
    isplitl [sn2]; · iexact sn2
    isplitl [W1]; · iexact W1
    isplitl [rP]; · iexact rP
    isplitl [sn3]; · iexact sn3
    isplitl [XL]; · iexact XL
    isplitl [WL]; · iexact WL
    isplitl [rc0]; · iexact rc0
    isplitl [HO]; · iexact HO
    iexact O
  iintro ⟨rc8, rc16, rc17, XL, WL, dn0, XT, HO, O⟩
  iapply (part3_run X Wt K c) $$ [rc4 rc8 rc12 rc16 HO]
  · isplitr; · iexact HK
    isplitl [rc4]; · iexact rc4
    isplitl [rc8]; · iexact rc8
    isplitl [rc12]; · iexact rc12
    isplitl [rc16]; · iexact rc16
    iexact HO
  iintro ⟨dn4, a0, dn8, XB, dn12, b0, dn16, W0, HO⟩
  iapply (part4_run X Wt K c) $$ [rc20 rc17 rc21 a0 b0 aN1 sn4 bP1 sn5 HO]
  · isplitr; · iexact HK
    isplitl [rc20]; · iexact rc20
    isplitl [rc17]; · iexact rc17
    isplitl [rc21]; · iexact rc21
    isplitl [a0]; · iexact a0
    isplitl [b0]; · iexact b0
    isplitl [aN1]; · iexact aN1
    isplitl [sn4]; · iexact sn4
    isplitl [bP1]; · iexact bP1
    isplitl [sn5]; · iexact sn5
    iexact HO
  iintro ⟨dn20, l, dn17, W1, dn21, r, a0L, b0L, rc1, rc9, HO⟩
  iapply (part5_run X Wt K c) $$ [l r dN sn6 dP sn7 a0L HO O]
  · isplitr; · iexact HK
    isplitl [l]; · iexact l
    isplitl [r]; · iexact r
    isplitl [dN]; · iexact dN
    isplitl [sn6]; · iexact sn6
    isplitl [dP]; · iexact dP
    isplitl [sn7]; · iexact sn7
    isplitl [a0L]; · iexact a0L
    isplitl [HO]; · iexact HO
    iexact O
  iintro ⟨lL, lRR, rL, rRL, rc18, rc19, a0L, HO, O⟩
  iapply (part6_run X Wt K c) $$ [b0L rL rc1 rc5 HO O]
  · isplitr; · iexact HK
    isplitl [b0L]; · iexact b0L
    isplitl [rL]; · iexact rL
    isplitl [rc1]; · iexact rc1
    isplitl [rc5]; · iexact rc5
    isplitl [HO]; · iexact HO
    iexact O
  iintro ⟨b0L, rL, dn1, a0R, dn5, a1, HO, O⟩
  iapply (part7_run X Wt K c) $$ [rc9 rc13 rc18 rc22 HO]
  · isplitr; · iexact HK
    isplitl [rc9]; · iexact rc9
    isplitl [rc13]; · iexact rc13
    isplitl [rc18]; · iexact rc18
    isplitl [rc22]; · iexact rc22
    iexact HO
  iintro ⟨dn9, b0R, dn13, b1, dn18, lRL, dn22, dL, HO⟩
  iapply (part8_run X Wt K c) $$ [rc19 rc23 a1 b1 aN2A sn8 bP2A sn9 HO]
  · isplitr; · iexact HK
    isplitl [rc19]; · iexact rc19
    isplitl [rc23]; · iexact rc23
    isplitl [a1]; · iexact a1
    isplitl [b1]; · iexact b1
    isplitl [aN2A]; · iexact aN2A
    isplitl [sn8]; · iexact sn8
    isplitl [bP2A]; · iexact bP2A
    isplitl [sn9]; · iexact sn9
    iexact HO
  iintro ⟨dn19, rRR, dn23, dR, a1L, b1L, a1BR, b1BR, rc2, rc10, HO⟩
  iapply (part9_run X Wt K c) $$ [a1BR aN2B sn10 b1BR bP2B sn11 dL dR a1L HO O]
  · isplitr; · iexact HK
    isplitl [a1BR]; · iexact a1BR
    isplitl [aN2B]; · iexact aN2B
    isplitl [sn10]; · iexact sn10
    isplitl [b1BR]; · iexact b1BR
    isplitl [bP2B]; · iexact bP2B
    isplitl [sn11]; · iexact sn11
    isplitl [dL]; · iexact dL
    isplitl [dR]; · iexact dR
    isplitl [a1L]; · iexact a1L
    isplitl [HO]; · iexact HO
    iexact O
  iintro ⟨rc3, rc11, D, a1L, HO, O⟩
  iapply (part10_run X Wt K c) $$ [b1L D rc2 rc6 HO O]
  · isplitr; · iexact HK
    isplitl [b1L]; · iexact b1L
    isplitl [D]; · iexact D
    isplitl [rc2]; · iexact rc2
    isplitl [rc6]; · iexact rc6
    isplitl [HO]; · iexact HO
    iexact O
  iintro ⟨b1L, D, dn2, a1AR, dn6, a2A, HO, O⟩
  iapply (part11_run X Wt K c) $$ [rc10 rc14 S a2A rL HO O]
  · isplitr; · iexact HK
    isplitl [rc10]; · iexact rc10
    isplitl [rc14]; · iexact rc14
    isplitl [S]; · iexact S
    isplitl [a2A]; · iexact a2A
    isplitl [rL]; · iexact rL
    isplitl [HO]; · iexact HO
    iexact O
  iintro ⟨dn10, b1AR, dn14, b2A, S, a2A, rL, HO, O⟩
  iapply (part12_run X Wt K c) $$ [lL rc3 rc7 HO O]
  · isplitr; · iexact HK
    isplitl [lL]; · iexact lL
    isplitl [rc3]; · iexact rc3
    isplitl [rc7]; · iexact rc7
    isplitl [HO]; · iexact HO
    iexact O
  iintro ⟨lL, dn3, a1BR, dn7, a2B, HO, O⟩
  iapply (part13_run X Wt K c) $$ [rc11 rc15 a2B rL lL HO O]
  · isplitr; · iexact HK
    isplitl [rc11]; · iexact rc11
    isplitl [rc15]; · iexact rc15
    isplitl [a2B]; · iexact a2B
    isplitl [rL]; · iexact rL
    isplitl [lL]; · iexact lL
    isplitl [HO]; · iexact HO
    iexact O
  iintro ⟨dn11, b1BR, dn15, b2B, a2B, rL, lL, HO, O⟩
  simp only [Prog.bind_lift, Prog.bind_op, pure_bind]
  ihave O : pts oM c fullShare (mid7 X Wt c s o) $$ [O]
  · unfold mid7 mid6 mid5 mid4 mid2; iexact O
  iapply (wp_load_rect 𝒱₀ (c : Thread nD τ) none Set.univ (m := oM) (r := rQ3) (S := oM.view.set) (q := fullShare) (f := mid7 X Wt c s o) (View.set_slice_subset _ _)) $$ O
  iintro O
  iapply (step_store c (r := rQ3) (mid7 X Wt c s o) (outC X Wt c s o) rfl) $$ O
  iintro O
  rw [Prog.pure_eq_ret, wp_ret]
  ihave XR := (split_x c qR (X c)).2 $$ [XT XB]
  · isplitl [XT]; · iexact XT
    iexact XB
  ihave X := (share_two fullShare).2 $$ [XL XR]
  · isplitl [XL]; · iexact XL
    iexact XR
  ihave WR := (share_two qR).2 $$ [W0 W1]
  · isplitl [W0]; · iexact W0
    iexact W1
  ihave W := (share_two fullShare).2 $$ [WL WR]
  · isplitl [WL]; · iexact WL
    iexact WR
  ihave a0 := (share_two fullShare).2 $$ [a0L a0R]
  · isplitl [a0L]; · iexact a0L
    iexact a0R
  ihave a1R := (split_a1 c qR (aF X c)).2 $$ [a1AR a1BR]
  · isplitl [a1AR]; · iexact a1AR
    iexact a1BR
  ihave a1 := (share_two fullShare).2 $$ [a1L a1R]
  · isplitl [a1L]; · iexact a1L
    iexact a1R
  ihave A := (split_a c fullShare (aF X c)).2 $$ [a0 a1 a2A a2B]
  · isplitl [a0]; · iexact a0
    isplitl [a1]; · iexact a1
    isplitl [a2A]; · iexact a2A
    iexact a2B
  ihave b0 := (share_two fullShare).2 $$ [b0L b0R]
  · isplitl [b0L]; · iexact b0L
    iexact b0R
  ihave b1R := (split_b1 c qR (bF X c)).2 $$ [b1AR b1BR]
  · isplitl [b1AR]; · iexact b1AR
    iexact b1BR
  ihave b1 := (share_two fullShare).2 $$ [b1L b1R]
  · isplitl [b1L]; · iexact b1L
    iexact b1R
  ihave Bb := (split_b c fullShare (bF X c)).2 $$ [b0 b1 b2A b2B]
  · isplitl [b0]; · iexact b0
    isplitl [b1]; · iexact b1
    isplitl [b2A]; · iexact b2A
    iexact b2B
  ihave lR := (split_l c qR (lF Wt c)).2 $$ [lRL lRR]
  · isplitl [lRL]; · iexact lRL
    iexact lRR
  ihave L := (share_two fullShare).2 $$ [lL lR]
  · isplitl [lL]; · iexact lL
    iexact lR
  ihave rR := (split_r c qR (rF Wt c)).2 $$ [rRL rRR]
  · isplitl [rRL]; · iexact rRL
    iexact rRR
  ihave R := (share_two fullShare).2 $$ [rL rR]
  · isplitl [rL]; · iexact rL
    iexact rR
  ihave Hd := (doneAll_intro c) $$ [dn0 dn1 dn2 dn3 dn4 dn5 dn6 dn7 dn8 dn9 dn10 dn11 dn12 dn13 dn14 dn15 dn16 dn17 dn18 dn19 dn20 dn21 dn22 dn23]
  · isplitl [dn0]; · iexact dn0
    isplitl [dn1]; · iexact dn1
    isplitl [dn2]; · iexact dn2
    isplitl [dn3]; · iexact dn3
    isplitl [dn4]; · iexact dn4
    isplitl [dn5]; · iexact dn5
    isplitl [dn6]; · iexact dn6
    isplitl [dn7]; · iexact dn7
    isplitl [dn8]; · iexact dn8
    isplitl [dn9]; · iexact dn9
    isplitl [dn10]; · iexact dn10
    isplitl [dn11]; · iexact dn11
    isplitl [dn12]; · iexact dn12
    isplitl [dn13]; · iexact dn13
    isplitl [dn14]; · iexact dn14
    isplitl [dn15]; · iexact dn15
    isplitl [dn16]; · iexact dn16
    isplitl [dn17]; · iexact dn17
    isplitl [dn18]; · iexact dn18
    isplitl [dn19]; · iexact dn19
    isplitl [dn20]; · iexact dn20
    isplitl [dn21]; · iexact dn21
    isplitl [dn22]; · iexact dn22
    iexact dn23
  imod (close_bar X Wt K c) $$ [atB] with Hb
  · isplitr; · iexact HR
    iexact atB
  imod (close_all X Wt K c) $$ [Hd] with Hs
  · isplitr; · iexact HR
    iexact Hd
  imodintro
  iapply Hk
  unfold bodyPost scratch
  isplitl [Hb]; · iexact Hb
  isplitl [Hs]; · iexact Hs
  isplitl [A Bb L R D]
  · isplitl [A]; · iexists _; iexact A
    isplitl [Bb]; · iexists _; iexact Bb
    isplitl [L]; · iexists _; iexact L
    isplitl [R]; · iexists _; iexact R
    iexists _; iexact D
  isplitl [X]; · iexact X
  isplitl [W]; · iexact W
  isplitl [S]; · iexact S
  isplitl [O]; · iexact O
  iexact HO

end Body

end Cert.RingK
-- ==== Proof.Give.lean ====
/-
# What the launch gives a device, and how its cells are opened at the region's entry
-/
module

public import proofs.«01_k».proof.Proof.Body

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-! ## Who pays which cell -/

/-- The device whose cell `k` the device `c` pays. -/
def payTo (c : Dev nD) (k : Fin 24) : Dev nD :=
  if k.val ∈ [4, 5, 6, 7, 20, 22] then nxt c else if k.val ∈ [12, 13, 14, 15, 21, 23] then prv c else c
/-- The device that pays cell `k` of device `c`. -/
def paidBy (c : Dev nD) (k : Fin 24) : Dev nD :=
  if k.val ∈ [4, 5, 6, 7, 20, 22] then prv c else if k.val ∈ [12, 13, 14, 15, 21, 23] then nxt c else c
theorem pay_paid (c : Dev nD) (k : Fin 24) : payTo (paidBy c k) k = c := by
  unfold payTo paidBy
  split
  · exact nxt_prv c
  · split
    · exact prv_nxt c
    · rfl
theorem paid_pay (c : Dev nD) (k : Fin 24) : paidBy (payTo c k) k = c := by
  unfold payTo paidBy
  split
  · exact prv_nxt c
  · split
    · exact nxt_prv c
    · rfl
def payE : (Dev nD × Fin 24) ≃ (Dev nD × Fin 24) :=
  ⟨fun p => (payTo p.1 p.2, p.2), fun p => (paidBy p.1 p.2, p.2), fun p => by dsimp only; rw [paid_pay], fun p => by dsimp only; rw [pay_paid]⟩

section Give
variable (X : XC F) (Wt : WC F) (K : GSem nD τ sig → ℕ) (c : Dev nD)

/-- The tokens of the transfers it starts. -/
def tokens : sProp 𝕄 := bigSep (Finset.univ : Finset (Fin 24)) fun k => dutyTok ER (qCell (payTo c k) k) 0 false
def barToks : sProp 𝕄 := iprop(dutyTok ER (barCell (prv c)) 0 true ∗ dutyTok ER (barCell (nxt c)) 0 false)
/-- The credit on its own cells that the others owe it. -/
def credsAll : sProp 𝕄 :=
  iprop(cred (tallyAt (barCell c) () 2) ∗ bigSep (Finset.univ : Finset (Fin 12)) fun n => cred (tallyAt (qCell c (recvIx n.val)) () (amtQ (4 + (recvIx n.val).val))))
def unopened : sProp 𝕄 := bigSep (Finset.univ : Finset (Fin 24)) fun k => openTok ER (qCell c k)
def places : sProp 𝕄 := bigSep (Finset.univ : Finset (Fin 24)) fun k => atPos ER (qCell c k) 0 ∅ 0

def kept : sProp 𝕄 := iprop(barToks c ∗ atPos ER (barCell c) 0 ∅ 0 ∗ tokens c ∗ credsAll c ∗ unopened c)
def Tk : sProp 𝕄 := iprop(∃ K, recs X Wt K ∗ kept c)
def Xk : sProp 𝕄 := iprop(∃ K, (recs X Wt K ∗ levAts L lv ∗ opened c) ∗ barAll c ∗ sndAll c ∗ rcvAll c)

theorem tokens_list : (tokens c : sProp 𝕄) ⊢ iprop(dutyTok ER (qCell (payTo c 0) 0) 0 false ∗ dutyTok ER (qCell (payTo c 1) 1) 0 false ∗ dutyTok ER (qCell (payTo c 2) 2) 0 false ∗ dutyTok ER (qCell (payTo c 3) 3) 0 false ∗ dutyTok ER (qCell (payTo c 4) 4) 0 false ∗ dutyTok ER (qCell (payTo c 5) 5) 0 false ∗ dutyTok ER (qCell (payTo c 6) 6) 0 false ∗ dutyTok ER (qCell (payTo c 7) 7) 0 false ∗ dutyTok ER (qCell (payTo c 8) 8) 0 false ∗ dutyTok ER (qCell (payTo c 9) 9) 0 false ∗ dutyTok ER (qCell (payTo c 10) 10) 0 false ∗ dutyTok ER (qCell (payTo c 11) 11) 0 false ∗ dutyTok ER (qCell (payTo c 12) 12) 0 false ∗ dutyTok ER (qCell (payTo c 13) 13) 0 false ∗ dutyTok ER (qCell (payTo c 14) 14) 0 false ∗ dutyTok ER (qCell (payTo c 15) 15) 0 false ∗ dutyTok ER (qCell (payTo c 16) 16) 0 false ∗ dutyTok ER (qCell (payTo c 17) 17) 0 false ∗ dutyTok ER (qCell (payTo c 18) 18) 0 false ∗ dutyTok ER (qCell (payTo c 19) 19) 0 false ∗ dutyTok ER (qCell (payTo c 20) 20) 0 false ∗ dutyTok ER (qCell (payTo c 21) 21) 0 false ∗ dutyTok ER (qCell (payTo c 22) 22) 0 false ∗ dutyTok ER (qCell (payTo c 23) 23) 0 false) := by
  unfold tokens
  rw [bigSep_univ_eq_bigSepL [0, 1, 2, 3, 4, 5, 6, 7, 8, 9, 10, 11, 12, 13, 14, 15, 16, 17, 18, 19, 20, 21, 22, 23] (by decide) (by decide)]
  simp only [bigSepL_cons_cons, bigSepL_singleton]
  exact .rfl
theorem places_list : (places c : sProp 𝕄) ⊢ iprop(atPos ER (qCell c 0) 0 ∅ 0 ∗ atPos ER (qCell c 1) 0 ∅ 0 ∗ atPos ER (qCell c 2) 0 ∅ 0 ∗ atPos ER (qCell c 3) 0 ∅ 0 ∗ atPos ER (qCell c 4) 0 ∅ 0 ∗ atPos ER (qCell c 5) 0 ∅ 0 ∗ atPos ER (qCell c 6) 0 ∅ 0 ∗ atPos ER (qCell c 7) 0 ∅ 0 ∗ atPos ER (qCell c 8) 0 ∅ 0 ∗ atPos ER (qCell c 9) 0 ∅ 0 ∗ atPos ER (qCell c 10) 0 ∅ 0 ∗ atPos ER (qCell c 11) 0 ∅ 0 ∗ atPos ER (qCell c 12) 0 ∅ 0 ∗ atPos ER (qCell c 13) 0 ∅ 0 ∗ atPos ER (qCell c 14) 0 ∅ 0 ∗ atPos ER (qCell c 15) 0 ∅ 0 ∗ atPos ER (qCell c 16) 0 ∅ 0 ∗ atPos ER (qCell c 17) 0 ∅ 0 ∗ atPos ER (qCell c 18) 0 ∅ 0 ∗ atPos ER (qCell c 19) 0 ∅ 0 ∗ atPos ER (qCell c 20) 0 ∅ 0 ∗ atPos ER (qCell c 21) 0 ∅ 0 ∗ atPos ER (qCell c 22) 0 ∅ 0 ∗ atPos ER (qCell c 23) 0 ∅ 0) := by
  unfold places
  rw [bigSep_univ_eq_bigSepL [0, 1, 2, 3, 4, 5, 6, 7, 8, 9, 10, 11, 12, 13, 14, 15, 16, 17, 18, 19, 20, 21, 22, 23] (by decide) (by decide)]
  simp only [bigSepL_cons_cons, bigSepL_singleton]
  exact .rfl
theorem creds_list : (bigSep (Finset.univ : Finset (Fin 12)) fun n => cred (tallyAt (qCell c (recvIx n.val)) () (amtQ (4 + (recvIx n.val).val))) : sProp 𝕄)
    ⊢ iprop(cred (tallyAt (qCell c 4) () (amtQ (4 + (4 : Fin 24).val))) ∗ cred (tallyAt (qCell c 12) () (amtQ (4 + (12 : Fin 24).val))) ∗ cred (tallyAt (qCell c 20) () (amtQ (4 + (20 : Fin 24).val))) ∗ cred (tallyAt (qCell c 21) () (amtQ (4 + (21 : Fin 24).val))) ∗ cred (tallyAt (qCell c 5) () (amtQ (4 + (5 : Fin 24).val))) ∗ cred (tallyAt (qCell c 13) () (amtQ (4 + (13 : Fin 24).val))) ∗ cred (tallyAt (qCell c 22) () (amtQ (4 + (22 : Fin 24).val))) ∗ cred (tallyAt (qCell c 23) () (amtQ (4 + (23 : Fin 24).val))) ∗ cred (tallyAt (qCell c 6) () (amtQ (4 + (6 : Fin 24).val))) ∗ cred (tallyAt (qCell c 14) () (amtQ (4 + (14 : Fin 24).val))) ∗ cred (tallyAt (qCell c 7) () (amtQ (4 + (7 : Fin 24).val))) ∗ cred (tallyAt (qCell c 15) () (amtQ (4 + (15 : Fin 24).val)))) := by
  rw [bigSep_univ_eq_bigSepL [0, 1, 2, 3, 4, 5, 6, 7, 8, 9, 10, 11] (by decide) (by decide)]
  simp only [bigSepL_cons_cons, bigSepL_singleton]
  exact .rfl

theorem open_one (k : Fin 24) : iprop(recs X Wt K ∗ (openTok ER (qCell c k) ∗ semVal (qCell c k) 0))
    ⊢ (|={Set.univ}=> (atPos ER (qCell c k) 0 ∅ 0 ∗ reached ER (qCell c k) 0) : sProp 𝕄) := by
  refine BIBase.Entails.trans ?_ (Rounds.cell_open ER (Rd X Wt) (g := qCell c k) (Set.mem_univ (K (qCell c k))))
  iintro ⟨#HR, H⟩
  isplitr; · iapply (recs_q X Wt K c k); iexact HR
  iexact H
/-- Every DMA cell of the device opened. -/
theorem open_all : iprop(recs X Wt K ∗ (unopened c ∗ Pipeline.ownSems0 osem c)) ⊢ (|={Set.univ}=> (places c ∗ opened c) : sProp 𝕄) := by
  unfold unopened places opened Pipeline.ownSems0
  rw [← bigSep_sep', ← bigSep_sep']
  refine BIBase.Entails.trans ?_ ((bigSep_mono (s := (Finset.univ : Finset (Fin 24))) fun k _ => open_one X Wt K c k).trans (bigSep_fupd _ _))
  exact bigSep_with_persistent (R := recs X Wt K) (Φ := fun k : Fin 24 => iprop(openTok ER (qCell c k) ∗ semVal (qCell c k) 0)) fun k _ => .rfl

theorem hopen : iprop(Tk X Wt c ∗ Pipeline.ownSems0 osem c ∗ levAts L lv) ⊢ (|={Set.univ}=> Xk X Wt c : sProp 𝕄) := by
  unfold Tk Xk kept barToks credsAll barAll sndAll rcvAll
  iintro ⟨⟨%K, #HR, ⟨TP, TN⟩, HB, HT, ⟨cB, HC⟩, HU⟩, HS, #Hlev⟩
  imod (open_all X Wt K c) $$ [HU HS] with ⟨HP, #Ho⟩
  · isplitr; · iexact HR
    isplitl [HU]; · iexact HU
    iexact HS
  ihave HT := (tokens_list c) $$ HT
  ihave HP := (places_list c) $$ HP
  ihave HC := (creds_list c) $$ HC
  icases HT with ⟨t0, t1, t2, t3, t4, t5, t6, t7, t8, t9, t10, t11, t12, t13, t14, t15, t16, t17, t18, t19, t20, t21, t22, t23⟩
  icases HP with ⟨p0, p1, p2, p3, p4, p5, p6, p7, p8, p9, p10, p11, p12, p13, p14, p15, p16, p17, p18, p19, p20, p21, p22, p23⟩
  icases HC with ⟨c4, c12, c20, c21, c5, c13, c22, c23, c6, c14, c7, c15⟩
  imodintro
  iexists K
  isplitr
  · isplitr; · iexact HR
    isplitr; · iexact Hlev
    iexact Ho
  isplitl [TP TN cB HB]
  · isplitl [TP]; · iexact TP
    isplitl [TN]; · iexact TN
    isplitl [cB]; · iexact cB
    iexact HB
  isplitl [t0 t4 p0 t8 t12 p8 t16 t20 p16 t17 t21 p17 t1 t5 p1 t9 t13 p9 t18 t22 p18 t19 t23 p19 t2 t6 p2 t10 t14 p10 t3 t7 p3 t11 t15 p11]
  · unfold sndP
    isplitl [t0 t4 p0]
    · isplitl [t0]; · iexact t0
      isplitl [t4]; · iexact t4
      iexact p0
    isplitl [t8 t12 p8]
    · isplitl [t8]; · iexact t8
      isplitl [t12]; · iexact t12
      iexact p8
    isplitl [t16 t20 p16]
    · isplitl [t16]; · iexact t16
      isplitl [t20]; · iexact t20
      iexact p16
    isplitl [t17 t21 p17]
    · isplitl [t17]; · iexact t17
      isplitl [t21]; · iexact t21
      iexact p17
    isplitl [t1 t5 p1]
    · isplitl [t1]; · iexact t1
      isplitl [t5]; · iexact t5
      iexact p1
    isplitl [t9 t13 p9]
    · isplitl [t9]; · iexact t9
      isplitl [t13]; · iexact t13
      iexact p9
    isplitl [t18 t22 p18]
    · isplitl [t18]; · iexact t18
      isplitl [t22]; · iexact t22
      iexact p18
    isplitl [t19 t23 p19]
    · isplitl [t19]; · iexact t19
      isplitl [t23]; · iexact t23
      iexact p19
    isplitl [t2 t6 p2]
    · isplitl [t2]; · iexact t2
      isplitl [t6]; · iexact t6
      iexact p2
    isplitl [t10 t14 p10]
    · isplitl [t10]; · iexact t10
      isplitl [t14]; · iexact t14
      iexact p10
    isplitl [t3 t7 p3]
    · isplitl [t3]; · iexact t3
      isplitl [t7]; · iexact t7
      iexact p3
    isplitl [t11]; · iexact t11
    isplitl [t15]; · iexact t15
    iexact p11
  unfold rcvP
  isplitl [c4 p4]
  · isplitl [c4]; · iexact c4
    iexact p4
  isplitl [c5 p5]
  · isplitl [c5]; · iexact c5
    iexact p5
  isplitl [c6 p6]
  · isplitl [c6]; · iexact c6
    iexact p6
  isplitl [c7 p7]
  · isplitl [c7]; · iexact c7
    iexact p7
  isplitl [c12 p12]
  · isplitl [c12]; · iexact c12
    iexact p12
  isplitl [c13 p13]
  · isplitl [c13]; · iexact c13
    iexact p13
  isplitl [c14 p14]
  · isplitl [c14]; · iexact c14
    iexact p14
  isplitl [c15 p15]
  · isplitl [c15]; · iexact c15
    iexact p15
  isplitl [c20 p20]
  · isplitl [c20]; · iexact c20
    iexact p20
  isplitl [c21 p21]
  · isplitl [c21]; · iexact c21
    iexact p21
  isplitl [c22 p22]
  · isplitl [c22]; · iexact c22
    iexact p22
  isplitl [c23]; · iexact c23
  iexact p23

end Give

end Cert.RingK
-- ==== Proof.Oblig.lean ====
/-
# The proof data of the kernel's one call, and its body obligation
-/
module

public import proofs.«01_k».proof.Proof.Give
public import proofs.«01_k».proof.Proof.Gen.KernelIdeal.Frame

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2 eq_ix3)

variable {F : FTy → Type} [FloatOps F]

local notation "𝕄" => MT nD τ sig Unit (Elt F) ℕ UU ℕ

/-! ## The result does not depend on what the output buffer held -/

theorem hz2 : (![0, 0] : Fin 2 → Nat) = fun _ => 0 := funext fun a => by fin_cases a <;> rfl
theorem st0_any (X : XC F) (Wt : WC F) (c : Dev nD) (o o' : OC F) : st0 X Wt c o = st0 X Wt c o' := by
  unfold st0
  exact (Memref.write_access_unit_zero_univ (Elt F) cc0_stg3_0 hz2 inb_S4096x2048_S4096x2048_0_0 o _).trans (Memref.write_access_unit_zero_univ (Elt F) cc0_stg3_0 hz2 inb_S4096x2048_S4096x2048_0_0 o' _).symm
theorem outC_any (X : XC F) (Wt : WC F) (c : Dev nD) (s : SC F) (o o' : OC F) : outC X Wt c s o = outC X Wt c s o' := by
  unfold outC mid7 mid6 mid5 mid4 mid2
  rw [st0_any X Wt c o o']

section Data
variable (m : (ℓ : Loc nD τ sig) → Buf (Elt F) ℓ)

/-- What the staged operands hold: a device's blocks of `x` and of the weights, and the scale. -/
def Xm : XC F := fun c => iblk m c 0 t0_0
def Wm : WC F := fun c => iblk m c 1 t0_0
def Sm (c : Dev nD) : SC F := iblk m c 2 t0_0
def Om (c : Dev nD) : OC F := outC (Xm m) (Wm m) c (Sm m c) (V m c main_v2)

def Φ₀ (c : Dev nD) : sProp 𝕄 := iprop(Xk (Xm m) (Wm m) c ∗ scratch c ∗ ∃ r, prngReg c r)
def Φ₁ (c : Dev nD) : sProp 𝕄 := iprop(semVal (barCell c) 0 ∗ Pipeline.ownSems0 osem c ∗ scratch c ∗ ∃ r, prngReg c r)

def dat0 (c : Dev nD) : Dat τ (Elt F) Unit ℕ UU ℕ cfg0 c where
  A w := V m c (Pipeline.arrRef spec0 w)
  after w _ := match w with
    | ⟨0, _⟩ => Xm m c
    | ⟨1, _⟩ => Wm m c
    | ⟨2, _⟩ => Sm m c
    | ⟨3, _⟩ => Om m c
  Φ t := if t.val = 0 then Φ₀ m c else Φ₁ c
  q _ := fullShare
  owed t := if t.val = 0 then O₀ c else 0

theorem owed_first (c : Dev nD) : (dat0 m c).owed (t0_0 : Fin cfg0.N).castSucc = O₀ c := rfl
theorem owed_last (c : Dev nD) : (dat0 m c).owed (t0_0 : Fin cfg0.N).succ = 0 := rfl

theorem owesAt_intro {c : Dev nD} (d : Dat τ (Elt F) Unit ℕ UU ℕ cfg0 c) (t : Fin (cfg0.N + 1)) (O : CellTallies nD τ sig Unit)
    (h : d.owed t = O) (hr : d.recorded t = Set.univ) : (owesE c O : sProp 𝕄) ⊢ d.owesAt () t := by
  unfold owesE Dat.owesAt Pipeline.owesWithin Dat.bound
  rw [h, hr]
  iintro ⟨%W, HO⟩
  iexists W
  isplitr; · ipureintro; exact fun _ _ => Or.inl trivial
  iexact HO
theorem owesAt_elim {c : Dev nD} (d : Dat τ (Elt F) Unit ℕ UU ℕ cfg0 c) (t : Fin (cfg0.N + 1)) (O : CellTallies nD τ sig Unit)
    (h : d.owed t = O) : (d.owesAt () t : sProp 𝕄) ⊢ owesE c O := by
  unfold owesE Dat.owesAt Pipeline.owesWithin
  rw [h]
  iintro ⟨%W, -, HO⟩
  iexists W
  iexact HO

theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

theorem pts_whole (c : Dev nD) (b : Ref sig .tc) (f : b.ty.Contents (Elt F)) :
    (pts (Memref.whole b) c fullShare f : sProp 𝕄) = (((c : Thread nD τ).loc b) ↦{fullShare} f) := by
  show ((Memref.whole b).view.loc (c : Thread nD τ) ↦[(Memref.whole b).view.set]{fullShare} f : sProp 𝕄) = _
  simp only [Memref.view_whole, View.set_whole]

theorem before_0 (c : Dev nD) (d) : (dat0 m c).before (0 : Fin 4) t0_0 d = Xm m c := by
  rw [Dat.before_fetched _ _ _ (fetch0_0 t0_0)]; rfl
theorem before_1 (c : Dev nD) (d) : (dat0 m c).before (1 : Fin 4) t0_0 d = Wm m c := by
  rw [Dat.before_fetched _ _ _ (fetch0_1 t0_0)]; rfl
theorem before_2 (c : Dev nD) (d) : (dat0 m c).before (2 : Fin 4) t0_0 d = Sm m c := by
  rw [Dat.before_fetched _ _ _ (fetch0_2 t0_0)]; rfl

/-- A staged block held whole, spelt out. -/
abbrev held1 (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def pre₁ (c : Dev nD) : sProp 𝕄 :=
  iprop(Φ₀ m c ∗ (dat0 m c).owesAt () (t0_0 : Fin cfg0.N).castSucc
    ∗ (∃ d, held1 c cc0_stg0_0 ((dat0 m c).before (0 : Fin 4) t0_0 d))
    ∗ (∃ d, held1 c cc0_stg1_0 ((dat0 m c).before (1 : Fin 4) t0_0 d))
    ∗ (∃ d, held1 c cc0_stg2_0 ((dat0 m c).before (2 : Fin 4) t0_0 d))
    ∗ (∃ d, held1 c cc0_stg3_0 ((dat0 m c).before (3 : Fin 4) t0_0 d)))
def post₁ (c : Dev nD) : sProp 𝕄 :=
  iprop(Φ₁ c ∗ (dat0 m c).owesAt () (t0_0 : Fin cfg0.N).succ
    ∗ held1 c cc0_stg0_0 (Xm m c) ∗ held1 c cc0_stg1_0 (Wm m c)
    ∗ held1 c cc0_stg2_0 (Sm m c) ∗ held1 c cc0_stg3_0 (Om m c))

theorem owns_elim (c : Dev nD) (b : Ref sig .tc) (f : b.ty.Contents (Elt F)) :
    (held1 c b f : sProp 𝕄) ⊢ pts (Memref.whole b) c fullShare f := by
  rw [pts_whole]
  iintro ⟨%g, %h, H⟩
  subst h
  iexact H
theorem owns_intro (c : Dev nD) (b : Ref sig .tc) (f : b.ty.Contents (Elt F)) :
    (pts (Memref.whole b) c fullShare f : sProp 𝕄) ⊢ held1 c b f := by
  rw [pts_whole]
  iintro H
  iexists f
  isplitr; · ipureintro; rfl
  iexact H

theorem outC_Om (c : Dev nD) (o : OC F) : outC (Xm m) (Wm m) c (Sm m c) o = Om m c := outC_any _ _ c _ _ _

theorem body_post (c : Dev nD) (o : OC F) : iprop(bodyPost (Xm m) (Wm m) c (Sm m c) o ∗ ∃ r, prngReg c r) ⊢ (post₁ m c : sProp 𝕄) := by
  unfold bodyPost post₁ Φ₁
  rw [outC_Om m c o]
  iintro ⟨⟨Hb, Hs, Hscr, X, W, S, O, HO⟩, Hr⟩
  isplitl [Hb Hs Hscr Hr]
  · isplitl [Hb]; · iexact Hb
    isplitl [Hs]; · iexact Hs
    isplitl [Hscr]; · iexact Hscr
    iexact Hr
  isplitl [HO]; · iapply (owesAt_intro (dat0 m c) _ 0 (owed_last m c) rfl); iexact HO
  isplitl [X]; · iapply (owns_intro c cc0_stg0_0 (Xm m c)); iexact X
  isplitl [W]; · iapply (owns_intro c cc0_stg1_0 (Wm m c)); iexact W
  isplitl [S]; · iapply (owns_intro c cc0_stg2_0 (Sm m c)); iexact S
  iapply (owns_intro c cc0_stg3_0 (Om m c))
  iexact O

theorem body_pre (c : Dev nD) : (pre₁ m c : sProp 𝕄) ⊢ iprop(∃ K o, bodyPre (Xm m) (Wm m) K c (Sm m c) o ∗ ∃ r, prngReg c r) := by
  unfold pre₁ Φ₀ Xk
  iintro ⟨⟨⟨%K, HK, HB, HS, HR⟩, Hscr, Hr⟩, HO, ⟨%dx, X⟩, ⟨%dw, W⟩, ⟨%ds, S⟩, ⟨%dO, O⟩⟩
  rw [before_0, before_1, before_2]
  ihave X := (owns_elim c cc0_stg0_0 _) $$ X
  ihave W := (owns_elim c cc0_stg1_0 _) $$ W
  ihave S := (owns_elim c cc0_stg2_0 _) $$ S
  ihave O := (owns_elim c cc0_stg3_0 _) $$ O
  ihave HO := (owesAt_elim (dat0 m c) _ (O₀ c) (owed_first m c)) $$ HO
  iexists K
  iexists _
  unfold bodyPre
  isplitr [Hr]
  · isplitl [HK]; · iexact HK
    isplitl [Hscr]; · iexact Hscr
    isplitl [HB]; · iexact HB
    isplitl [HS]; · iexact HS
    isplitl [HR]; · iexact HR
    isplitl [X]; · iexact X
    isplitl [W]; · iexact W
    isplitl [S]; · iexact S
    isplitl [O]; · iexact O
    iexact HO
  iexact Hr

theorem body_all (c : Dev nD) : (pre₁ m c : sProp 𝕄) ⊢ wp frame (wpE (defs₀ (F := F)) 𝒱₀ (c : Thread nD τ) none) Set.univ (cc0_body (F := F) xM (Memref.isWhole_whole _) wM (Memref.isWhole_whole _) sM (Memref.isWhole_whole _) oM (Memref.isWhole_whole _) aM (Memref.isWhole_whole _) bM (Memref.isWhole_whole _) lM (Memref.isWhole_whole _) rM (Memref.isWhole_whole _) dM (Memref.isWhole_whole _) cc0_scratch5 cc0_scratch6 cc0_scratch7 cc0_scratch8 cc0_scratch9 cc0_scratch10) (fun _ => post₁ m c) := by
  refine BIBase.Entails.trans (body_pre m c) ?_
  iintro ⟨%K, %o, H, Hr⟩
  iapply (body_run (Xm m) (Wm m) K c (Sm m c) o (fun _ => post₁ m c)) $$ [H]
  · iexact H
  iintro H
  iapply (body_post m c o)
  isplitl [H]; · iexact H
  iexact Hr

set_option maxRecDepth 20000 in
theorem body_obligation (c : Dev nD) : BodyObligation (dat0 m c) (defs₀ (F := F)) 𝒱₀ () Set.univ := fun t => by
  rw [fin_N0 t]
  rw [bigSep_W0, bigSep_W0]
  simp only [owns_whole]
  exact body_all m c

end Data

end Cert.RingK
-- ==== Proof.Deal.lean ====
/-
# Dealing the launch: cells, tokens and credit, each to the device that uses it
-/
module

public import proofs.«01_k».proof.Proof.Oblig

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2 eq_ix3)

variable {F : FTy → Type} [FloatOps F]

local notation "𝕄" => MT nD τ sig Unit (Elt F) ℕ UU ℕ

/-! ## The cells and the tokens -/

theorem dev_eq_of_cell {a b : Dev nD} {s t : SemLoc sig} (h : (((a : Thread nD τ), s) : GSem nD τ sig) = ((b : Thread nD τ), t)) : a = b :=
  congrArg (fun g : GSem nD τ sig => g.1.1) h
theorem osem_inj : Function.Injective osem := by decide
theorem osem_ne_bar : ∀ k : Fin 24, osem k ≠ .reg barS := by decide

def barAt : Dev nD ↪ GSem nD τ sig := ⟨fun c => barCell c, fun _ _ h => dev_eq_of_cell h⟩
def qAt : Dev nD × Fin 24 ↪ GSem nD τ sig :=
  ⟨fun p => qCell p.1 p.2, fun _ _ h => Prod.ext (dev_eq_of_cell h) (osem_inj (congrArg Prod.snd h))⟩
abbrev barCells : Finset (GSem nD τ sig) := Finset.univ.map barAt
abbrev qCells : Finset (GSem nD τ sig) := Finset.univ.map qAt

theorem cells_disjoint : Disjoint (barCells : Finset (GSem nD τ sig)) qCells := by
  rw [Finset.disjoint_left]
  intro g h h'
  obtain ⟨c, -, rfl⟩ := Finset.mem_map.mp h
  obtain ⟨p, -, e⟩ := Finset.mem_map.mp h'
  exact osem_ne_bar p.2 (congrArg Prod.snd e)

/-- A device's duties: one on each DMA cell, two on the barrier. -/
abbrev tokSem : Fin 24 ⊕ Bool → SemLoc sig × Bool
  | .inl k => (osem k, false)
  | .inr b => (.reg barS, b)
theorem tokSem_inj : Function.Injective tokSem := by
  rintro (k | b) (k' | b') h
  · exact congrArg Sum.inl (osem_inj (congrArg Prod.fst h))
  · exact absurd (congrArg Prod.fst h) (osem_ne_bar k)
  · exact absurd (congrArg Prod.fst h).symm (osem_ne_bar k')
  · exact congrArg Sum.inr (congrArg Prod.snd h)
def tokAt : Dev nD × (Fin 24 ⊕ Bool) ↪ GSem nD τ sig × ℕ × Bool :=
  ⟨fun p => (((p.1 : Thread nD τ), (tokSem p.2).1), 0, (tokSem p.2).2), fun p q h =>
    Prod.ext (dev_eq_of_cell (congrArg Prod.fst h))
      (tokSem_inj (Prod.ext (congrArg (fun t : GSem nD τ sig × ℕ × Bool => t.1.2) h) (congrArg (fun t : GSem nD τ sig × ℕ × Bool => t.2.2) h)))⟩
def allToks : Finset (GSem nD τ sig × ℕ × Bool) := Finset.univ.map tokAt

theorem bool_pair (Ψ : Bool → sProp 𝕄) : bigSep Finset.univ Ψ = iprop(Ψ true ∗ Ψ false) := by
  rw [show (Finset.univ : Finset Bool) = {true, false} from by decide, bigSep_insert (by decide), bigSep_singleton]
  rfl

theorem pair_up (Φ Ψ : Dev nD → sProp 𝕄) : iprop(bigSep Finset.univ Φ ∗ bigSep Finset.univ Ψ) ⊢ bigSep Finset.univ fun c => iprop(Φ c ∗ Ψ c) :=
  Entails.of_eq (bigSep_sep' _ _ _).symm

theorem deal_tokens : bigSep allToks (fun x => (dutyTok ER x.1 x.2.1 x.2.2 : sProp 𝕄))
    ⊢ iprop((bigSep Finset.univ fun c : Dev nD => tokens c) ∗ bigSep Finset.univ fun c : Dev nD => barToks c) := by
  have hq : (bigSep Finset.univ fun c : Dev nD => bigSep Finset.univ fun k : Fin 24 => (dutyTok ER (qCell c k) 0 false : sProp 𝕄))
      = bigSep Finset.univ fun c : Dev nD => tokens c := by
    rw [← bigSep_univ_prod (fun p : Dev nD × Fin 24 => (dutyTok ER (qCell p.1 p.2) 0 false : sProp 𝕄)),
      bigSep_univ_equiv payE (fun p : Dev nD × Fin 24 => (dutyTok ER (qCell p.1 p.2) 0 false : sProp 𝕄)), bigSep_univ_prod]
    rfl
  have hb : (bigSep Finset.univ fun c : Dev nD => bigSep Finset.univ fun b : Bool => (dutyTok ER (barCell c) 0 b : sProp 𝕄))
      = bigSep Finset.univ fun c : Dev nD => barToks c := by
    simp only [bool_pair]
    rw [bigSep_sep', bigSep_univ_equiv ring.symm (fun c : Dev nD => (dutyTok ER (barCell c) 0 true : sProp 𝕄)),
      bigSep_univ_equiv ring (fun c : Dev nD => (dutyTok ER (barCell c) 0 false : sProp 𝕄)), ← bigSep_sep']
    rfl
  unfold allToks
  rw [bigSep_map, bigSep_univ_prod, ← hq, ← hb, ← bigSep_sep']
  refine bigSep_mono fun c _ => ?_
  rw [bigSep_univ_sum]
  exact BI.Entails.refl _

/-! ## The credit -/

/-- How often device `d` pays the cell `k` of `c` in its last `m` transfers. -/
def times (d c : Dev nD) (k : Fin 24) : ℕ → ℕ
  | 0 => 0
  | m + 1 => times d c k m + if tgt d (11 - m) = c ∧ recvIx (11 - m) = k then 1 else 0

theorem debt_q (d c : Dev nD) (k : Fin 24) (m : ℕ) : debt d m (qCell c k) () = times d c k m * amtQ (4 + k.val) := by
  induction m with
  | zero => exact (Nat.zero_mul _).symm
  | succ m ih =>
    show debt d m (qCell c k) () + tallyAt (qCell (tgt d (11 - m)) (recvIx (11 - m))) () (amtQ (4 + (recvIx (11 - m)).val)) (qCell c k) () = _
    rw [ih, tallyAt_apply]
    show _ = (times d c k m + if tgt d (11 - m) = c ∧ recvIx (11 - m) = k then 1 else 0) * _
    by_cases h : tgt d (11 - m) = c ∧ recvIx (11 - m) = k
    · obtain ⟨h1, h2⟩ := h
      rw [h1, h2, if_pos ⟨rfl, rfl⟩, if_pos ⟨rfl, rfl⟩, Nat.add_mul, Nat.one_mul]
    · rw [if_neg h, if_neg (fun e => h ⟨(dev_eq_of_cell e.1).symm, (osem_inj (congrArg Prod.snd e.1)).symm⟩)]; rfl

theorem debt_bar (d c : Dev nD) (m : ℕ) : debt d m (barCell c) () = 0 := by
  by_contra h
  obtain ⟨j, -, e⟩ := debt_pos (Nat.pos_of_ne_zero h)
  exact osem_ne_bar _ (congrArg Prod.snd e).symm

theorem bar_tally (a c : Dev nD) : tallyAt (barCell a) () 1 (barCell c) () = if a = c then 1 else 0 := by
  rw [tallyAt_apply]
  by_cases h : a = c
  · rw [if_pos h, if_pos ⟨by rw [h], rfl⟩]
  · rw [if_neg h, if_neg (fun e => h (dev_eq_of_cell e.1).symm)]
theorem bar_tally_q (a c : Dev nD) (k : Fin 24) : tallyAt (barCell a) () 1 (qCell c k) () = 0 := by
  rw [tallyAt_apply, if_neg (fun e => osem_ne_bar k (congrArg Prod.snd e.1))]

theorem owed_bar (d c : Dev nD) : O₀ d (barCell c) () = (if nxt d = c then 1 else 0) + if prv d = c then 1 else 0 := by
  show debt d 12 (barCell c) () + tallyAt (barCell (nxt d)) () 1 (barCell c) () + tallyAt (barCell (prv d)) () 1 (barCell c) () = _
  rw [debt_bar, bar_tally, bar_tally, Nat.zero_add]
theorem owed_q (d c : Dev nD) (k : Fin 24) : O₀ d (qCell c k) () = times d c k 12 * amtQ (4 + k.val) := by
  show debt d 12 (qCell c k) () + tallyAt (barCell (nxt d)) () 1 (qCell c k) () + tallyAt (barCell (prv d)) () 1 (qCell c k) () = _
  rw [debt_q, bar_tally_q, bar_tally_q]; rfl

theorem bar_count : ∀ c : Dev nD, (∑ d : Dev nD, ((if nxt d = c then 1 else 0) + if prv d = c then 1 else 0)) = 2 := by decide
theorem q_count : ∀ (c : Dev nD) (n : Fin 12), (∑ d : Dev nD, times d c (recvIx n.val) 12) = 1 := by decide +kernel

theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, bar_count]
theorem launch_q (c : Dev nD) (n : Fin 12) :
    tallyOn (qCell c (recvIx n.val)) (launchCredit (Pipeline.owing O₀) 0 (qCell c (recvIx n.val)))
      = (tallyAt (qCell c (recvIx n.val)) () (amtQ (4 + (recvIx n.val).val)) : CellTallies nD τ sig Unit) := by
  unfold tallyAt
  refine congrArg _ (Finsupp.ext fun u => ?_)
  cases u
  rw [Pipeline.launchCredit_owing, Finsupp.single_eq_same, Finset.sum_congr rfl fun d _ => owed_q d c (recvIx n.val), ← Finset.sum_mul, q_count, Nat.one_mul]

theorem recvIx_inj : ∀ a b : Fin 12, recvIx a.val = recvIx b.val → a = b := by decide
def recvAt : Fin 12 ↪ SemLoc sig := ⟨fun n => osem (recvIx n.val), fun a b h => recvIx_inj a b (osem_inj h)⟩

theorem deal_credit (c : Dev nD) : (Pipeline.launchCred O₀ c : sProp 𝕄) ⊢ credsAll c := by
  unfold Pipeline.launchCred credsAll
  rw [bigSep_univ_at _ (SemLoc.reg barS), launch_bar]
  refine sep_mono_right ?_
  have h : Finset.univ.map recvAt ⊆ Finset.univ.erase (SemLoc.reg barS : SemLoc sig) := fun s hs => by
    obtain ⟨n, -, rfl⟩ := Finset.mem_map.mp hs
    exact Finset.mem_erase.mpr ⟨osem_ne_bar _, Finset.mem_univ _⟩
  refine (bigSep_subset h).trans ?_
  rw [bigSep_map]
  exact bigSep_mono fun n _ => Entails.of_eq (congrArg cred (launch_q c n))

/-! ## The records -/

section Records
variable (X : XC F) (Wt : WC F)

theorem records (κ : GSem nD τ sig → ℕ) :
    iprop((bigSep (barCells ∪ qCells) fun g => cellInv ER (Rd X Wt) (κ g) g) ∗ bigSep barCells fun g => reached ER g 0) ⊢ (recs X Wt κ : sProp 𝕄) := by
  have h : (bigSep (barCells ∪ qCells) fun g => cellInv ER (Rd X Wt) (κ g) g : sProp 𝕄)
      ⊢ iprop((bigSep (Finset.univ : Finset (Dev nD)) fun d => cellInv ER (Rd X Wt) (κ (barCell d)) (barCell d))
        ∗ bigSep (Finset.univ : Finset (Dev nD × Fin 24)) fun p => cellInv ER (Rd X Wt) (κ (qCell p.1 p.2)) (qCell p.1 p.2)) := by
    rw [bigSep_union cells_disjoint, bigSep_map, bigSep_map]
    exact Entails.of_eq rfl
  have h' : (bigSep barCells fun g => reached ER g 0 : sProp 𝕄) ⊢ bigSep (Finset.univ : Finset (Dev nD)) fun d => reached ER (barCell d) 0 := by
    rw [bigSep_map]
    exact Entails.of_eq rfl
  unfold recs
  iintro ⟨H, H3⟩
  ihave H := h $$ H
  ihave H3 := h' $$ H3
  icases H with ⟨H1, H2⟩
  isplitl [H2]; · iexact H2
  isplitl [H1]; · iexact H1
  iexact H3

/-- What device `c` gets of the ghost state. -/
def share (c : Dev nD) : sProp 𝕄 := iprop((barToks c ∗ atPos ER (barCell c) 0 ∅ 0) ∗ tokens c ∗ unopened c)

theorem deal_all : iprop(bigSep Finset.univ (fun c : Dev nD => (semVal (barCell c) 0 : sProp 𝕄)) ∗ BI.own (ER (launchOf barCells qCells allToks)))
    ⊢ (|={Set.univ}=> ∃ κ, recs X Wt κ ∗ bigSep Finset.univ fun c : Dev nD => share c : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barAt (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barAt (Φ := fun g : GSem nD τ sig => (atPos ER g 0 ∅ 0 : sProp 𝕄)))
  have hun : bigSep qCells (fun g => (openTok ER g : sProp 𝕄)) ⊢ bigSep Finset.univ (fun c : Dev nD => unopened c) :=
    Entails.of_eq (by rw [bigSep_map, bigSep_univ_prod]; rfl)
  iintro ⟨Hv, Hu⟩
  imod (Rounds.fund_launch ER (Rd X Wt) cells_disjoint (fun g _ h => h) allToks) $$ [Hv Hu] with ⟨%κ, -, Hinv, Hr, Hat, Hopen, Htok⟩
  · isplitl [Hv]
    · iapply hv $$ Hv
    · iexact Hu
  imodintro
  iexists κ
  isplitl [Hinv Hr]
  · iapply (records X Wt κ)
    isplitl [Hinv]; · iexact Hinv
    iexact Hr
  ihave Htok := (deal_tokens (F := F)) $$ Htok
  icases Htok with ⟨Hq, Hb⟩
  unfold share
  iapply (pair_up _ _)
  isplitl [Hb Hat]
  · iapply (pair_up _ _)
    isplitl [Hb]; · iexact Hb
    iapply hat $$ Hat
  iapply (pair_up _ _)
  isplitl [Hq]; · iexact Hq
  iapply hun $$ Hopen

theorem share_Tk (κ : GSem nD τ sig → ℕ) (c : Dev nD) : iprop(recs X Wt κ ∗ (share c ∗ credsAll c)) ⊢ (Tk X Wt c : sProp 𝕄) := by
  unfold Tk kept share
  iintro ⟨HR, ⟨⟨Hb, Hat⟩, Ht, Hu⟩, Hc⟩
  iexists κ
  isplitl [HR]; · iexact HR
  isplitl [Hb]; · iexact Hb
  isplitl [Hat]; · iexact Hat
  isplitl [Ht]; · iexact Ht
  isplitl [Hc]; · iexact Hc
  iexact Hu

end Records

end Cert.RingK
-- ==== Proof.Launch.lean ====
/-
# The run of the whole program on the four devices
-/
module

public import proofs.«01_k».proof.Proof.Deal
public import Idealize.ShloMosaic.Lib.Pipeline.RegionTalk
public import Idealize.ShloMosaic.Lib.Pipeline.ValueKit.Geometry

@[expose] public section

noncomputable section

namespace Cert.RingK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2 eq_ix3)

variable {F : FTy → Type} [FloatOps F]

local notation "𝕄" => MT nD τ sig Unit (Elt F) ℕ UU ℕ

section Run
variable (m : (ℓ : Loc nD τ sig) → Buf (Elt F) ℓ) (ρ : Dev nD → PrngReg)

def adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

/-! ## The buffers outside the call -/

def bufs : Finset (DevRef τ sig) := (StableHlo.tcRefs τ sig).filter fun b => ¬ b.isScoped
theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem held_list (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1)) ∗ (((c : Thread nD τ).loc main_arg2) ↦{fullShare} W (Proc.devRef .tc main_arg2)) ∗ (((c : Thread nD τ).loc main_arg3) ↦{fullShare} W (Proc.devRef .tc main_arg3)) ∗ (((c : Thread nD τ).loc main_v1) ↦{fullShare} W (Proc.devRef .tc main_v1)) ∗ (((c : Thread nD τ).loc main_v2) ↦{fullShare} W (Proc.devRef .tc main_v2))) := by
  unfold StableHlo.held
  rw [bigSep_eq_bigSepL_of_eq [Proc.devRef .tc main_arg0, Proc.devRef .tc main_arg1, Proc.devRef .tc main_arg2, Proc.devRef .tc main_arg3, Proc.devRef .tc main_v1, Proc.devRef .tc main_v2] (by decide) (by decide)]
  rfl
theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The buffers that are no operand of the call. -/
def others : Finset (DevRef τ sig) := bufs \ Pipeline.arrRefs (τ := τ) spec0
theorem arrs_sub : Pipeline.arrRefs (τ := τ) spec0 ⊆ bufs := by decide

def Wb (c : Dev nD) : Valuation τ sig (Elt F) := StableHlo.after hostOps0 (fun b => m (c, b))
def Wa (c : Dev nD) : Valuation τ sig (Elt F) := Function.update (Wb m c) (Proc.devRef .tc main_v2) ((dat0 m c).arrAt 3 cfg0.N)

theorem Wa_out (c : Dev nD) : Wa m c (Proc.devRef .tc main_v2) = (dat0 m c).arrAt 3 cfg0.N := Function.update_self ..
theorem Wa_ne (c : Dev nD) (b : DevRef τ sig) (hb : b ≠ Proc.devRef .tc main_v2) : Wa m c b = Wb m c b := Function.update_of_ne hb ..

theorem out_arr (c : Dev nD) : (dat0 m c).arrAt 3 cfg0.N = Om m c := by
  refine (dat0 m c).arrAt_eq_of_after_last 3 t0_0 (by decide +kernel) _ fun j => ?_
  rfl

/-! ## The two parts of the program -/

def Rest (c : Dev nD) : sProp 𝕄 := iprop(Tk (Xm m) (Wm m) c ∗ (∃ r, prngReg c r) ∗ ∃ W, owes (c : Thread nD τ) (O₀ c) W)

def seg0 : Pipeline.HostSeg (Name := ℕ) (U := UU) (pcfgs (F := F)) defs₀ 𝒱₀ L lv :=
  Pipeline.HostSeg.ofOps _ _ _ _ _ bufs hostOps0 (fun op h => by
      simp only [List.mem_singleton] at h
      subst h
      show ({Proc.devRef .tc main_arg2, Proc.devRef .tc main_arg3, Proc.devRef .tc main_v1} : Finset (DevRef τ sig)) ⊆ bufs
      decide)
    (fun op h => (List.forall_iff_forall_mem.mp hostOps0_fresh) op h) (fun c b => m (c, b)) (Rest m)

def Yk (c : Dev nD) : sProp 𝕄 := semVal (barCell c) 0

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_zero (c : Dev nD) : (pdats (F := F) m 0 c).owed 0 = O₀ c := rfl
theorem owed_end (c : Dev nD) : (pdats (F := F) m 0 c).owed (Fin.last _) = 0 := by
  show (if (Fin.last cfg0.N).val = 0 then O₀ c else 0) = 0
  rw [Fin.val_last, if_neg (by rw [show cfg0.N = 1 from N_0]; decide)]

theorem lvQ_recv : ∀ j : Fin 12, 0 < lvQ (4 + (recvIx (11 - j.val)).val) := by decide
theorem owed_lv (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · have h' : 0 < debt c 12 g i + tallyAt (barCell (nxt c)) () 1 g i + tallyAt (barCell (prv c)) () 1 g i := h
    have hb (a : Dev nD) (h : 0 < tallyAt (barCell a) () 1 g i) : i ∈ L g ∧ (0 : ℕ) < lv g i := by
      rw [tallyAt_apply] at h
      split at h
      · next hg =>
        obtain ⟨rfl, -⟩ := hg
        exact ⟨by rw [L_tc]; exact Finset.mem_singleton_self _, Nat.one_pos⟩
      · exact absurd h (Nat.lt_irrefl 0)
    rcases Nat.add_pos_iff_pos_or_pos.mp h' with h' | h'
    · rcases Nat.add_pos_iff_pos_or_pos.mp h' with h' | h'
      · obtain ⟨j, hj, rfl⟩ := debt_pos h'
        exact ⟨by rw [L_tc]; exact Finset.mem_singleton_self _, lvQ_recv ⟨j, hj⟩⟩
      · exact hb _ h'
    · exact hb _ h'
  · exact absurd h (Nat.lt_irrefl 0)

theorem scratch_rest (c : Dev nD) : (Pipeline.scopedRest (Ix := Unit) (Name := ℕ) (U := UU) (Lvl := ℕ) (Val := Elt F) (Pipeline.pin (pcfgs (F := F)) adm 0).spec c : sProp 𝕄) = scratch c := by
  refine (scopedRest0_eq c).trans ?_
  unfold scratch
  simp only [show ∀ f, (pts aM c fullShare f : sProp 𝕄) = _ from pts_whole c cc0_scratch0, show ∀ f, (pts bM c fullShare f : sProp 𝕄) = _ from pts_whole c cc0_scratch1, show ∀ f, (pts lM c fullShare f : sProp 𝕄) = _ from pts_whole c cc0_scratch2, show ∀ f, (pts rM c fullShare f : sProp 𝕄) = _ from pts_whole c cc0_scratch3, show ∀ f, (pts dM c fullShare f : sProp 𝕄) = _ from pts_whole c cc0_scratch4]

theorem h_in (c : Dev nD) : iprop(Pipeline.scopedRest (Pipeline.pin (pcfgs (F := F)) adm 0).spec c ∗ (∃ r, prngReg c r) ∗ StableHlo.held (c.tc : Thread nD τ) ∅ (Wb m c) ∗ Xk (Xm m) (Wm m) c)
    ⊢ (pdats m 0 c).Φ 0 := by
  rw [show (pdats m 0 c).Φ 0 = iprop(Xk (Xm m) (Wm m) c ∗ scratch c ∗ ∃ r, prngReg c r) from rfl, scratch_rest]
  iintro ⟨Hs, Hp, -, HX⟩
  isplitl [HX]; · iexact HX
  isplitl [Hs]; · iexact Hs
  iexact Hp
theorem h_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Wa m c) ∗ Pipeline.ownSems0 osem c ∗ Yk c) := by
  rw [show (pdats m 0 c).Φ (Fin.last _) = iprop(semVal (barCell c) 0 ∗ Pipeline.ownSems0 osem c ∗ scratch c ∗ ∃ r, prngReg c r) from rfl, scratch_rest]
  unfold Yk
  iintro ⟨Hb, Hs, Hscr, Hp⟩
  isplitl [Hscr]; · iexact Hscr
  isplitl [Hp]; · iexact Hp
  isplitr; · unfold StableHlo.held; rw [BI.bigSep_empty]; iempintro
  isplitl [Hs]; · iexact Hs
  iexact Hb

theorem arr_before (c : Dev nD) (w : Fin 4) : (dat0 m c).arrAt w 0 = Wb m c (Proc.devRef .tc (Pipeline.arrRef spec0 w)) := rfl
theorem arr_after (c : Dev nD) : ∀ w : Fin 4, (dat0 m c).arrAt w cfg0.N = Wa m c (Proc.devRef .tc (Pipeline.arrRef spec0 w))
  | ⟨0, _⟩ => ((dat0 m c).arrAt_in (0 : Fin 4) rfl _).trans (Wa_ne m c (Proc.devRef .tc (Pipeline.arrRef spec0 0)) (by decide)).symm
  | ⟨1, _⟩ => ((dat0 m c).arrAt_in (1 : Fin 4) rfl _).trans (Wa_ne m c (Proc.devRef .tc (Pipeline.arrRef spec0 1)) (by decide)).symm
  | ⟨2, _⟩ => ((dat0 m c).arrAt_in (2 : Fin 4) rfl _).trans (Wa_ne m c (Proc.devRef .tc (Pipeline.arrRef spec0 2)) (by decide)).symm
  | ⟨3, _⟩ => (Wa_out m c).symm

theorem rest_same (c : Dev nD) (b : DevRef τ sig) (hb : b ∈ others \ (∅ : Finset (DevRef τ sig))) : Wa m c b = Wb m c b :=
  Wa_ne m c b (by
    rintro rfl
    exact (Finset.mem_sdiff.mp (Finset.mem_sdiff.mp hb).1).2 (by decide))

theorem stage_lv : ∀ (w : Fin 4) (s : Fin (spec0 w).nbuf), lvS (.dma ((spec0 w).sem s)) = 0 := by decide

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kitP rfl (fun c => (body_obligation m c).loose)
    (fun _ => 0) O₀ (fun c => (owed_zero m c).trans (zero_add _).symm) (owed_end m) (fun _ => rfl)
    (fun c w => by unfold Dat.share; split <;> rfl)
    (Wb m) (Wa m) (rest_same m)
    (Tk (Xm m) (Wm m)) Yk (Xk (Xm m) (Wm m)) Yk (fun c => hopen (Xm m) (Wm m) c) (h_in m) (h_out m)
    (fun c => by iintro H; imodintro; iexact H)
    (fun _ => 0)
    ⟨fun c w s => by rw [L_tc]; exact Finset.mem_singleton_self _, fun c w s => le_of_eq (stage_lv w s), fun c t g i h => owed_lv m c t g i h⟩
    (fun _ => iprop(emp))
    (arr_before m) (arr_after m)

theorem held_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) others W) :=
  StableHlo.held_sub_split _ arrs_sub W

theorem reg0_pre (c : Dev nD) : iprop(StableHlo.held (c : Thread nD τ) bufs (Wb m c) ∗ Rest m c) ⊢ (reg0 m).pre c := by
  show _ ⊢ iprop(StableHlo.held (c.tc : Thread nD τ) (Pipeline.arrRefs (τ := τ) spec0) (Wb m c) ∗ (∃ r, prngReg c r)
    ∗ (StableHlo.held (c.tc : Thread nD τ) others (Wb m c) ∗ emp) ∗ Tk (Xm m) (Wm m) c ∗ ∃ Wd, owes (c : Thread nD τ) (0 + O₀ c) Wd)
  rw [held_split, zero_add]
  unfold Rest
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO
theorem reg0_post (c : Dev nD) : (reg0 m).post c
    ⊢ iprop((StableHlo.held (c : Thread nD τ) bufs (Wa m c) ∗ semVal (barCell c) 0) ∗ ∃ W, owes (c : Thread nD τ) (0 : CellTallies nD τ sig Unit) W) := by
  show iprop(StableHlo.held (c.tc : Thread nD τ) (Pipeline.arrRefs (τ := τ) spec0) (Wa m c) ∗ (∃ r, prngReg c r)
    ∗ (StableHlo.held (c.tc : Thread nD τ) others (Wa m c) ∗ emp) ∗ Yk c ∗ ∃ Wd, owes (c : Thread nD τ) (0 : CellTallies nD τ sig Unit) Wd) ⊢ _
  rw [held_split]
  unfold Yk
  iintro ⟨Ha, -, ⟨Hr, -⟩, Hb, HO⟩
  isplitr [HO]
  · isplitl [Ha Hr]
    · isplitl [Ha]; · iexact Ha
      iexact Hr
    iexact Hb
  iexact HO

def segs : List (Pipeline.Seg (pcfgs (F := F)) adm (pdats m) () defs₀ 𝒱₀ L lv) := [.host (seg0 m), .region (reg0 m)]

/-! ## The launch -/

def u₀ : UU :=
  (initOf (Pipeline.cells (Pipeline.pin (pcfgs (F := F)) adm) cellOf_inj) (Pipeline.launchToks (Pipeline.pin (pcfgs (F := F)) adm) cellOf_inj),
    launchOf barCells qCells allToks)

/-- The launch's ghost state, all with device 0 until it is dealt. -/
def G (c : Dev nD) : sProp 𝕄 := if c = 0 then BI.own (ER (launchOf barCells qCells allToks)) else iprop(emp)
theorem all_G : bigSep Finset.univ (G (F := F)) = BI.own (ER (launchOf barCells qCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

abbrev T₀ (c : Dev nD) : sProp 𝕄 := iprop(StableHlo.held (c : Thread nD τ) bufs (fun b => m (c, b)) ∗ Rest m c)
abbrev Tₙ (c : Dev nD) : sProp 𝕄 := iprop(StableHlo.held (c : Thread nD τ) bufs (Wa m c) ∗ semVal (barCell c) 0)

/-- What a device has at launch beside the ghost state that is dealt. -/
def own₀ (c : Dev nD) : sProp 𝕄 :=
  iprop(StableHlo.held (c : Thread nD τ) bufs (fun b => m (c, b)) ∗ owes (c : Thread nD τ) (O₀ c) ∅ ∗ credsAll c ∗ ∃ r, prngReg c r)

theorem T₀_intro (κ : GSem nD τ sig → ℕ) (c : Dev nD) : iprop(recs (Xm m) (Wm m) κ ∗ (own₀ m c ∗ share c)) ⊢ T₀ m c := by
  unfold own₀ T₀ Rest
  iintro ⟨#HR, ⟨Hh, HO, Hc, Hp⟩, Hs⟩
  isplitl [Hh]; · iexact Hh
  isplitl [Hs Hc]
  · iapply (share_Tk (Xm m) (Wm m) κ c)
    isplitr; · iexact HR
    isplitl [Hs]; · iexact Hs
    iexact Hc
  isplitl [Hp]; · iexact Hp
  iexists ∅
  iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have one (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(own₀ m c ∗ (semVal (barCell c) 0 ∗ G c)) : sProp 𝕄) := by
    rw [show (unscopedBufs c (fun b => m ((c : Thread nD τ).loc b)) : sProp 𝕄) = StableHlo.held (c : Thread nD τ) bufs (fun b => m (c, b)) from bufs_held c (fun b => m (c, b)),
      unscoped_sems]
    unfold own₀
    iintro ⟨Hh, Hb, HO, Hc, Hp, HG⟩
    ihave Hc := (deal_credit (F := F) c) $$ Hc
    isplitl [Hh HO Hc Hp]
    · isplitl [Hh]; · iexact Hh
      isplitl [HO]; · iexact HO
      isplitl [Hc]; · iexact Hc
      iexists (ρ c)
      iexact Hp
    isplitl [Hb]; · iexact Hb
    iexact HG
  refine BIBase.Entails.trans (sep_mono_left (bigSep_mono fun c _ => one c)) ?_
  rw [bigSep_sep', bigSep_sep', all_G]
  iintro ⟨⟨HB, HV⟩, -⟩
  imod (deal_all (Xm m) (Wm m)) $$ HV with ⟨%κ, #HR, HS⟩
  imodintro
  iapply (bigSep_with_persistent (R := recs (Xm m) (Wm m) κ) (Φ := fun c => iprop(own₀ m c ∗ share c)) fun c _ => T₀_intro m κ c)
  isplitr; · iexact HR
  iapply (pair_up _ _)
  isplitl [HB]; · iexact HB
  iexact HS

theorem unscoped_bar : ∀ sm : SemLoc sig, sm.isScoped .tc = false → sm = .reg barS := by decide

theorem Wa_arg (c : Dev nD) : Wa m c (Proc.devRef .tc main_arg0) = m ((c : Thread nD τ).loc main_arg0)
    ∧ Wa m c (Proc.devRef .tc main_arg1) = m ((c : Thread nD τ).loc main_arg1)
    ∧ Wa m c (Proc.devRef .tc main_arg2) = m ((c : Thread nD τ).loc main_arg2)
    ∧ Wa m c (Proc.devRef .tc main_arg3) = m ((c : Thread nD τ).loc main_arg3) :=
  ⟨(Wa_ne m c _ (by decide)).trans (V_main_arg0 m c), (Wa_ne m c _ (by decide)).trans (V_main_arg1 m c),
    (Wa_ne m c _ (by decide)).trans (V_main_arg2 m c), (Wa_ne m c _ (by decide)).trans (V_main_arg3 m c)⟩

set_option backward.isDefEq.respectTransparency.types false in
/-- From any memory with zero counters every fair execution ends, with the arguments unchanged, the result array holding
    what the body computes from the devices' blocks, and every counter zero. -/
theorem run_main : θ_run (defs (F := F)) (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ r.2.mem ((c : Thread nD τ).loc main_v2) = Om m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; exact .rfl)
    (by simp only [segs, Pipeline.Seg.pipes_host, Pipeline.Seg.pipes_region, Pipeline.Seg.pipes_nil]; decide)
    (O₀ := O₀) (hL := L_of_ne) (G := G) (u₀ := u₀)
    (hu₀ := by
      rw [all_G]
      unfold u₀
      iintro Hu
      ihave H := (ownU_pair _ _) $$ Hu
      icases H with ⟨HP, HX⟩
      imodintro
      isplitl [HP]; · iexact HP
      iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = Wa m c (Proc.devRef .tc main_arg0)
        ∧ s.mem ((c : Thread nD τ).loc main_arg1) = Wa m c (Proc.devRef .tc main_arg1)
        ∧ s.mem ((c : Thread nD τ).loc main_arg2) = Wa m c (Proc.devRef .tc main_arg2)
        ∧ s.mem ((c : Thread nD τ).loc main_arg3) = Wa m c (Proc.devRef .tc main_arg3)
        ∧ s.mem ((c : Thread nD τ).loc main_v2) = Wa m c (Proc.devRef .tc main_v2))
      ∧ s.sem (barCell c) = 0)
    (hfin := fun c s' => by
      dsimp only [Tₙ]
      rw [held_list]
      iintro ⟨⟨⟨H0, H1, H2, H3, -, H5⟩, Hb⟩, HSI⟩
      icombine HSI H0 gives %h0
      icombine HSI H1 gives %h1
      icombine HSI H2 gives %h2
      icombine HSI H3 gives %h3
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h5⟩, by simpa using hb⟩
      iexact HSI)
    (hQ := fun s h hs => ⟨fun c => by
        obtain ⟨⟨h0, h1, h2, h3, h5⟩, -⟩ := h c
        obtain ⟨e0, e1, e2, e3⟩ := Wa_arg m c
        exact ⟨⟨h0.trans e0, h1.trans e1, h2.trans e2, h3.trans e3⟩, h5.trans ((Wa_out m c).trans (out_arr m c))⟩,
      sem_eq_zero hs fun c sm hsm => by
        obtain rfl := unscoped_bar sm hsm
        exact (h c).2⟩)

end Run

end Cert.RingK
-- ==== Proof.Pays.lean ====
/-
# What each store's payload is at a row and a column, over the extended reals
-/
module

public import proofs.«01_k».proof.Proof.Stores
public import Idealize.ShloMosaic.Lib.Pointwise
public import Idealize.ShloMosaic.Lib.MatmulPlain

@[expose] public section

noncomputable section

namespace Cert.RingK

open Cert.KernelIdeal Cert.KernelIdeal.Gen
open Idealize.ShloMosaic
open Idealize.ShloMosaic.TcCoe

theorem pay1_at (x : Vec Ideal S4096x1024 .fp8e4m3) (w : Vec Ideal S1024x2048 .fp8e4m3) (r : Fin 4096) (q : Fin 2048) :
    k0_pay1 (F := Ideal) x w (ix2 r q) = ∑ k : Fin 1024, x (ix2 r k) * w (ix2 k q) := by
  pointwise [k0_pay1]

theorem pay2_at (o : Vec Ideal S2048x2048 .f32) (x : Vec Ideal S1x2048x1024 .fp8e4m3) (w : Vec Ideal S1024x2048 .fp8e4m3)
    (r : Fin 2048) (q : Fin 2048) :
    k0_pay2 (F := Ideal) o x w (ix2 r q) = o (ix2 r q) + ∑ k : Fin 1024, x (ix3 (n0 := 1) 0 r k) * w (ix2 k q) := by
  pointwise [k0_pay2]

theorem pay4_at (o : FVec Ideal S2048x2048 .f32) (x : Vec Ideal S1x2048x1024 .fp8e4m3) (w : Vec Ideal S1024x2048 .fp8e4m3)
    (r : Fin 2048) (q : Fin 2048) :
    k0_pay4 (F := Ideal) (k0_pay3 o) x w (ix2 r q) = o (ix2 r q) + ∑ k : Fin 1024, x (ix3 (n0 := 1) 0 r k) * w (ix2 k q) := by
  pointwise [k0_pay4, k0_pay3]

theorem pay5_at (o : Vec Ideal S2048x2048 .f32) (x : Vec Ideal S1x2048x1024 .fp8e4m3) (w : Vec Ideal S1024x2048 .fp8e4m3)
    (r : Fin 2048) (q : Fin 2048) :
    k0_pay5 (F := Ideal) o x w (ix2 r q) = o (ix2 r q) + ∑ k : Fin 1024, x (ix3 (n0 := 1) 0 r k) * w (ix2 k q) := by
  pointwise [k0_pay5]

theorem pay6_at (o : Vec Ideal S2048x2048 .f32) (x : Vec Ideal S1x2048x1024 .fp8e4m3) (w : Vec Ideal S1024x2048 .fp8e4m3)
    (r : Fin 2048) (q : Fin 2048) :
    k0_pay6 (F := Ideal) o x w (ix2 r q) = o (ix2 r q) + ∑ k : Fin 1024, x (ix3 (n0 := 1) 0 r k) * w (ix2 k q) := by
  pointwise [k0_pay6]

section Quarters
variable (s : Elt Ideal .f32) (o : Vec Ideal S1024x2048 .f32) (x : Vec Ideal S1x1024x1024 .fp8e4m3)
  (w : Vec Ideal S1024x2048 .fp8e4m3) (r : Fin 1024) (q : Fin 2048)

theorem pay7_at : k0_pay7 (F := Ideal) s o x w (ix2 r q) =
    (o (ix2 r q) + ∑ k : Fin 1024, x (ix3 (n0 := 1) 0 r k) * w (ix2 k q)) * s := by
  pointwise [k0_pay7]

theorem pay10_at : k0_pay10 (F := Ideal) s (k0_pay8 o) (k0_pay9 x) w (ix2 r q) =
    (o (ix2 r q) + ∑ k : Fin 1024, x (ix3 (n0 := 1) 0 r k) * w (ix2 k q)) * s := by
  pointwise [k0_pay10, k0_pay8, k0_pay9]

theorem pay11_at : k0_pay11 (F := Ideal) s o x w (ix2 r q) =
    (o (ix2 r q) + ∑ k : Fin 1024, x (ix3 (n0 := 1) 0 r k) * w (ix2 k q)) * s := by
  pointwise [k0_pay11]

theorem pay12_at : k0_pay12 (F := Ideal) s o x w (ix2 r q) =
    (o (ix2 r q) + ∑ k : Fin 1024, x (ix3 (n0 := 1) 0 r k) * w (ix2 k q)) * s := by
  pointwise [k0_pay12]
end Quarters

/-! ## Reading and writing rows of the result -/

/-- A write of the rows from `b`, `n` of them, at a row and a column. -/
theorem write_rows {b n : ℕ} (inb : ∀ a, (![b, 0] : Fin 2 → ℕ) a + (![n, 2048] : Fin 2 → ℕ) a ≤ S4096x2048.size a)
    (f : OC Ideal) (w : FVec Ideal ⟨2, ![n, 2048]⟩ .f32) (r : Fin 4096) (q : Fin 2048) :
    (oM.access (Rect.unit (s := S4096x2048) ![b, 0] ![n, 2048] inb)).write (Elt Ideal) f w Finset.univ (ix2 r q)
      = if h : b ≤ r.val ∧ r.val < b + n then w (ix2 ⟨r.val - b, by omega⟩ q) else f (ix2 r q) := by
  split
  · next h =>
    have e : (oM.access (Rect.unit (s := S4096x2048) ![b, 0] ![n, 2048] inb)).emb
        (ix2 (n0 := n) (n1 := 2048) ⟨r.val - b, by omega⟩ q) = ix2 r q := by
      funext a; refine Fin.ext ?_
      fin_cases a
      · show b + 1 * (r.val - b) = r.val; omega
      · show 0 + 1 * q.val = q.val; omega
    rw [← e]
    exact View.write_emb_of_mem (v := oM.access (Rect.unit (s := S4096x2048) ![b, 0] ![n, 2048] inb)) (Val := Elt Ideal) f w
      (Finset.mem_univ _)
  · next h =>
    refine View.write_of_not_mem (v := oM.access (Rect.unit (s := S4096x2048) ![b, 0] ![n, 2048] inb)) (Val := Elt Ideal) f w _ fun hm => h ?_
    obtain ⟨x, -, hx⟩ := Finset.mem_map.mp hm
    have h0 : b + 1 * (x 0).val = r.val := congrArg (fun y : S4096x2048.Idx => (y 0).val) hx
    have h1 : (x 0).val < n := (x 0).isLt
    omega

/-- A load of rows at a row and a column. -/
theorem read_rows {b n : ℕ} (inb : ∀ a, (![b, 0] : Fin 2 → ℕ) a + (![n, 2048] : Fin 2 → ℕ) a ≤ S4096x2048.size a)
    (f : OC Ideal) (r : Fin n) (q : Fin 2048) (hr : b + r.val < 4096) :
    (oM.access (Rect.unit (s := S4096x2048) ![b, 0] ![n, 2048] inb)).read (Elt Ideal) f (ix2 r q)
      = f (ix2 ⟨b + r.val, hr⟩ q) := by
  show f _ = f _
  congr 1
  funext a; refine Fin.ext ?_
  fin_cases a
  · show b + 1 * r.val = b + r.val; omega
  · show 0 + 1 * q.val = q.val; omega

section Reads
variable (X : XC Ideal) (Wt : WC Ideal) (c : Dev nD)

/-- A load of rows of a slot of the buffers the halves land in. -/
theorem read_a {j b n : ℕ} (inb : ∀ a, (![j, b, 0] : Fin 3 → ℕ) a + (![1, n, 1024] : Fin 3 → ℕ) a ≤ S3x2048x1024.size a)
    (r : Fin n) (k : Fin 1024) (hr : b + r.val < 4096) :
    (aM.access (Rect.unit (s := S3x2048x1024) ![j, b, 0] ![1, n, 1024] inb)).read (Elt Ideal) (aF X c) (ix3 (n0 := 1) 0 r k)
      = X (prv^[j + 1] c) (ix2 ⟨b + r.val, hr⟩ k) := by
  show X (prv^[(j + 1 * 0) + 1] c) _ = _
  rw [Nat.mul_zero, Nat.add_zero]
  refine congrArg (X (prv^[j + 1] c)) (funext fun a => Fin.ext ?_)
  fin_cases a
  · show b + 1 * r.val = b + r.val; omega
  · show 0 + 1 * k.val = k.val; omega

theorem read_b {j b n : ℕ} (inb : ∀ a, (![j, b, 0] : Fin 3 → ℕ) a + (![1, n, 1024] : Fin 3 → ℕ) a ≤ S3x2048x1024.size a)
    (r : Fin n) (k : Fin 1024) (hr : 2048 + (b + r.val) < 4096) :
    (bM.access (Rect.unit (s := S3x2048x1024) ![j, b, 0] ![1, n, 1024] inb)).read (Elt Ideal) (bF X c) (ix3 (n0 := 1) 0 r k)
      = X (nxt^[j + 1] c) (ix2 ⟨2048 + (b + r.val), hr⟩ k) := by
  show X (nxt^[(j + 1 * 0) + 1] c) _ = _
  rw [Nat.mul_zero, Nat.add_zero]
  refine congrArg (X (nxt^[j + 1] c)) (funext fun a => Fin.ext ?_)
  fin_cases a
  · show 2048 + (b + 1 * r.val) = 2048 + (b + r.val); omega
  · show 0 + 1 * k.val = k.val; omega

theorem zero2 : (![0, 0] : Fin 2 → ℕ) = fun _ => 0 := by funext a; fin_cases a <;> rfl
theorem zero1 : (![0] : Fin 1 → ℕ) = fun _ => 0 := by funext a; fin_cases a; rfl

theorem read_x (f : (cc0_stg0_0 : Ref sig .tc).ty.Contents (Elt Ideal)) : (xM.access rX).read (Elt Ideal) f = f :=
  Memref.read_access_unit_zero (Elt Ideal) cc0_stg0_0 zero2 _ f
theorem read_w (f : (cc0_stg1_0 : Ref sig .tc).ty.Contents (Elt Ideal)) : (wM.access rW).read (Elt Ideal) f = f :=
  Memref.read_access_unit_zero (Elt Ideal) cc0_stg1_0 zero2 _ f
theorem read_l : (lM.access rW).read (Elt Ideal) (lF Wt c) = Wt (prv c) :=
  Memref.read_access_unit_zero (Elt Ideal) cc0_scratch2 zero2 _ _
theorem read_r : (rM.access rW).read (Elt Ideal) (rF Wt c) = Wt (nxt c) :=
  Memref.read_access_unit_zero (Elt Ideal) cc0_scratch3 zero2 _ _
theorem read_d : (dM.access rW).read (Elt Ideal) (dF Wt c) = Wt (prv (prv c)) :=
  Memref.read_access_unit_zero (Elt Ideal) cc0_scratch4 zero2 _ _
theorem scal_eq (s : SC Ideal) (i : S1.Idx) : scal s = s i := by
  unfold scal
  rw [show (sM.access rS).read (Elt Ideal) s = s from Memref.read_access_unit_zero (Elt Ideal) cc0_stg2_0 zero1 _ s]
  exact congrArg s (funext fun a => by fin_cases a; exact Subsingleton.elim (α := Fin 1) _ _)
end Reads

/-! ## The result after each store, at a row and a column -/

/-- A device's part of the product. -/
def part (X : Dev nD → S4096x1024.Idx → EReal) (Wt : Dev nD → S1024x2048.Idx → EReal) (k : Dev nD) (r : Fin 4096) (q : Fin 2048) :
    EReal :=
  ∑ j : Fin 1024, X k (ix2 r j) * Wt k (ix2 j q)

section Values
variable (X : XC Ideal) (Wt : WC Ideal) (c : Dev nD) (v : EReal)

/-- The product of a landed part and a landed block is a part of the product. -/
theorem a_term {j b n : ℕ} (inb : ∀ a, (![j, b, 0] : Fin 3 → ℕ) a + (![1, n, 1024] : Fin 3 → ℕ) a ≤ S3x2048x1024.size a)
    (w : S1024x2048.Idx → EReal) (k : Dev nD) (hk : prv^[j + 1] c = k) (hw : w = Wt k) (r' : Fin n) (r : Fin 4096)
    (hr : b + r'.val = r.val) (q : Fin 2048) (u : (Rect.unit (s := S3x2048x1024) ![j, b, 0] ![1, n, 1024] inb).shape.Idx → EReal)
    (hu : u = (aM.access (Rect.unit (s := S3x2048x1024) ![j, b, 0] ![1, n, 1024] inb)).read (Elt Ideal) (aF X c)) :
    (∑ i : Fin 1024, u (ix3 (n0 := 1) 0 r' i) * w (ix2 i q)) = part X Wt k r q := by
  subst hk; subst hw; subst hu
  refine Finset.sum_congr rfl fun i _ => congrArg (· * _) ((read_a X c inb r' i (hr ▸ r.isLt)).trans ?_)
  exact congrArg (fun x => X (prv^[j + 1] c) (ix2 x i)) (Fin.ext hr)
theorem b_term {j b n : ℕ} (inb : ∀ a, (![j, b, 0] : Fin 3 → ℕ) a + (![1, n, 1024] : Fin 3 → ℕ) a ≤ S3x2048x1024.size a)
    (w : S1024x2048.Idx → EReal) (k : Dev nD) (hk : nxt^[j + 1] c = k) (hw : w = Wt k) (r' : Fin n) (r : Fin 4096)
    (hr : 2048 + (b + r'.val) = r.val) (q : Fin 2048)
    (u : (Rect.unit (s := S3x2048x1024) ![j, b, 0] ![1, n, 1024] inb).shape.Idx → EReal)
    (hu : u = (bM.access (Rect.unit (s := S3x2048x1024) ![j, b, 0] ![1, n, 1024] inb)).read (Elt Ideal) (bF X c)) :
    (∑ i : Fin 1024, u (ix3 (n0 := 1) 0 r' i) * w (ix2 i q)) = part X Wt k r q := by
  subst hk; subst hw; subst hu
  refine Finset.sum_congr rfl fun i _ => congrArg (· * _) ((read_b X c inb r' i (hr ▸ r.isLt)).trans ?_)
  exact congrArg (fun x => X (nxt^[j + 1] c) (ix2 x i)) (Fin.ext hr)

theorem o_term {b n : ℕ} (inb : ∀ a, (![b, 0] : Fin 2 → ℕ) a + (![n, 2048] : Fin 2 → ℕ) a ≤ S4096x2048.size a)
    (f : S4096x2048.Idx → EReal) (r' : Fin n) (r : Fin 4096) (hr : b + r'.val = r.val) (q : Fin 2048)
    (u : (Rect.unit (s := S4096x2048) ![b, 0] ![n, 2048] inb).shape.Idx → EReal)
    (hu : u = (oM.access (Rect.unit (s := S4096x2048) ![b, 0] ![n, 2048] inb)).read (Elt Ideal) f) :
    u (ix2 r' q) = f (ix2 r q) := by
  subst hu
  exact (read_rows inb f r' q (hr ▸ r.isLt)).trans (congrArg (fun x => f (ix2 x q)) (Fin.ext hr))

theorem prv3 : prv^[2 + 1] c = nxt c := by revert c; decide
theorem nxt3 : nxt^[2 + 1] c = prv c := by revert c; decide

variable (s : SC Ideal) (o : S4096x2048.Idx → EReal) (r : Fin 4096) (q : Fin 2048)

theorem st0_at : st0 X Wt c o (ix2 r q) = part X Wt c r q := by
  unfold st0
  rw [show ∀ w, (oM.access rO).write (Elt Ideal) o w Finset.univ = w from
    Memref.write_access_unit_zero_univ (Elt Ideal) cc0_stg3_0 zero2 _ o, read_x, read_w]
  exact pay1_at _ _ r q

theorem st1_at : st1 X Wt c o (ix2 r q) =
    if r.val < 2048 then o (ix2 r q) + part X Wt (prv c) r q else o (ix2 r q) := by
  unfold st1
  refine (write_rows (b := 0) (n := 2048) _ o _ r q).trans ?_
  by_cases h : r.val < 2048
  · rw [dif_pos (by omega), if_pos h]
    refine (pay2_at _ _ _ _ _).trans ?_
    exact congrArg₂ (· + ·) (o_term _ o _ r (by show 0 + (r.val - 0) = r.val; omega) q _ rfl)
      (a_term X Wt c _ _ _ rfl (read_l Wt c) _ r (by show 0 + (r.val - 0) = r.val; omega) q _ rfl)
  · rw [dif_neg (by omega), if_neg h]

theorem st2_at : st2 X Wt c o (k0_pay3 ((oM.access rBot).read (Elt Ideal) o)) (ix2 r q) =
    if 2048 ≤ r.val then o (ix2 r q) + part X Wt (nxt c) r q else o (ix2 r q) := by
  unfold st2
  refine (write_rows (b := 2048) (n := 2048) _ o _ r q).trans ?_
  by_cases h : 2048 ≤ r.val
  · rw [dif_pos (by omega), if_pos h]
    refine (pay4_at _ _ _ _ _).trans ?_
    exact congrArg₂ (· + ·) (o_term _ o _ r (by show 2048 + (r.val - 2048) = r.val; omega) q _ rfl)
      (b_term X Wt c _ _ _ rfl (read_r Wt c) _ r (by show 2048 + (0 + (r.val - 2048)) = r.val; omega) q _ rfl)
  · rw [dif_neg (by omega), if_neg h]

theorem st3_at : st3 X Wt c o (ix2 r q) =
    if r.val < 2048 then o (ix2 r q) + part X Wt (prv (prv c)) r q else o (ix2 r q) := by
  unfold st3
  refine (write_rows (b := 0) (n := 2048) _ o _ r q).trans ?_
  by_cases h : r.val < 2048
  · rw [dif_pos (by omega), if_pos h]
    refine (pay5_at _ _ _ _ _).trans ?_
    exact congrArg₂ (· + ·) (o_term _ o _ r (by show 0 + (r.val - 0) = r.val; omega) q _ rfl)
      (a_term X Wt c _ _ _ rfl (read_d Wt c) _ r (by show 0 + (r.val - 0) = r.val; omega) q _ rfl)
  · rw [dif_neg (by omega), if_neg h]

theorem st4_at : st4 X Wt c o (ix2 r q) =
    if 2048 ≤ r.val then o (ix2 r q) + part X Wt (prv (prv c)) r q else o (ix2 r q) := by
  unfold st4
  refine (write_rows (b := 2048) (n := 2048) _ o _ r q).trans ?_
  by_cases h : 2048 ≤ r.val
  · rw [dif_pos (by omega), if_pos h]
    refine (pay6_at _ _ _ _ _).trans ?_
    exact congrArg₂ (· + ·) (o_term _ o _ r (by show 2048 + (r.val - 2048) = r.val; omega) q _ rfl)
      (b_term X Wt c _ _ _ (show nxt^[1 + 1] c = prv (prv c) from (prv_prv c).symm) (read_d Wt c) _ r (by show 2048 + (0 + (r.val - 2048)) = r.val; omega) q _ rfl)
  · rw [dif_neg (by omega), if_neg h]

theorem st5_at : st5 X Wt c o v (ix2 r q) =
    if r.val < 1024 then (o (ix2 r q) + part X Wt (nxt c) r q) * v else o (ix2 r q) := by
  unfold st5
  refine (write_rows (b := 0) (n := 1024) _ o _ r q).trans ?_
  by_cases h : r.val < 1024
  · rw [dif_pos (by omega), if_pos h]
    refine (pay7_at _ _ _ _ _ _).trans ?_
    refine congrArg (· * v) ?_
    exact congrArg₂ (· + ·) (o_term _ o _ r (by show 0 + (r.val - 0) = r.val; omega) q _ rfl)
      (a_term X Wt c _ _ _ (prv3 c) (read_r Wt c) _ r (by show 0 + (r.val - 0) = r.val; omega) q _ rfl)
  · rw [dif_neg (by omega), if_neg h]

theorem st6_at : st6 Wt c o v (k0_pay8 ((oM.access rQ2).read (Elt Ideal) o)) (k0_pay9 ((bM.access rs2A).read (Elt Ideal) (bF X c))) (ix2 r q) =
    if 2048 ≤ r.val ∧ r.val < 3072 then (o (ix2 r q) + part X Wt (prv c) r q) * v else o (ix2 r q) := by
  unfold st6
  refine (write_rows (b := 2048) (n := 1024) _ o _ r q).trans ?_
  by_cases h : 2048 ≤ r.val ∧ r.val < 3072
  · rw [dif_pos (by omega), if_pos h]
    refine (pay10_at _ _ _ _ _ _).trans ?_
    refine congrArg (· * v) ?_
    exact congrArg₂ (· + ·) (o_term _ o _ r (by show 2048 + (r.val - 2048) = r.val; omega) q _ rfl)
      (b_term X Wt c _ _ _ (nxt3 c) (read_l Wt c) _ r (by show 2048 + (0 + (r.val - 2048)) = r.val; omega) q _ rfl)
  · rw [dif_neg (by omega), if_neg h]

theorem st7_at : st7 X Wt c o v (ix2 r q) =
    if 1024 ≤ r.val ∧ r.val < 2048 then (o (ix2 r q) + part X Wt (nxt c) r q) * v else o (ix2 r q) := by
  unfold st7
  refine (write_rows (b := 1024) (n := 1024) _ o _ r q).trans ?_
  by_cases h : 1024 ≤ r.val ∧ r.val < 2048
  · rw [dif_pos (by omega), if_pos h]
    refine (pay11_at _ _ _ _ _ _).trans ?_
    refine congrArg (· * v) ?_
    exact congrArg₂ (· + ·) (o_term _ o _ r (by show 1024 + (r.val - 1024) = r.val; omega) q _ rfl)
      (a_term X Wt c _ _ _ (prv3 c) (read_r Wt c) _ r (by show 1024 + (r.val - 1024) = r.val; omega) q _ rfl)
  · rw [dif_neg (by omega), if_neg h]

theorem st8_at : st8 o (last X Wt c o v) (ix2 r q) =
    if 3072 ≤ r.val then (o (ix2 r q) + part X Wt (prv c) r q) * v else o (ix2 r q) := by
  unfold st8
  refine (write_rows (b := 3072) (n := 1024) _ o _ r q).trans ?_
  by_cases h : 3072 ≤ r.val
  · rw [dif_pos (by omega), if_pos h]
    refine (pay12_at _ _ _ _ _ _).trans ?_
    refine congrArg (· * v) ?_
    exact congrArg₂ (· + ·) (o_term _ o _ r (by show 3072 + (r.val - 3072) = r.val; omega) q _ rfl)
      (b_term X Wt c _ _ _ (nxt3 c) (read_l Wt c) _ r (by show 2048 + (1024 + (r.val - 3072)) = r.val; omega) q _ rfl)
  · rw [dif_neg (by omega), if_neg h]

/-- The result on every device: the four parts added up, in the order they arrive in, times the scale. -/
theorem out_at : outC X Wt c s o (ix2 r q) =
    if r.val < 2048 then (part X Wt c r q + part X Wt (prv c) r q + part X Wt (prv (prv c)) r q + part X Wt (nxt c) r q) * scal s
    else (part X Wt c r q + part X Wt (nxt c) r q + part X Wt (prv (prv c)) r q + part X Wt (prv c) r q) * scal s := by
  unfold outC
  rw [st8_at]
  unfold mid7
  rw [st7_at]
  unfold mid6
  rw [st6_at]
  unfold mid5
  rw [st5_at]
  unfold mid4
  rw [st4_at, st3_at]
  unfold mid2
  rw [st2_at, st1_at, st0_at]
  split_ifs <;> first | rfl | (exfalso; omega)
end Values

end Cert.RingK
end
-- ==== Proof.RefValue.lean ====
/-
# What the reference computes, at a row and a column, over the extended reals
-/
module

public import proofs.«01_k».proof.Proof.Gen.ReferenceIdeal.Value
public import Idealize.ShloMosaic.Lib.Pointwise
public import Idealize.ShloMosaic.Lib.Pipeline.ValueKit
public import Idealize.ShloMosaic.Lib.Claim
public import Idealize.ShloMosaic.Lib.Pipeline.ReadBack

@[expose] public section

noncomputable section

namespace Cert.RingK.Ref

open Cert.ReferenceIdeal Cert.ReferenceIdeal.Gen Cert.ReferenceIdeal.Value
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The whole product, times the two scales' product. -/
def whole (x : S4096x4096.Idx → EReal) (w : S4096x2048.Idx → EReal) (a b : S1.Idx → EReal) : S4096x2048.Idx → EReal :=
  fun j => (∑ k : Fin 4096, x (ix2 (n0 := 4096) (n1 := 4096) (j 0) k) * w (ix2 (n0 := 4096) (n1 := 2048) k (j 1))) *
    (a (Shape.Idx.first (numel1_S1.symm ▸ Nat.one_pos)) * b (Shape.Idx.first (numel1_S1.symm ▸ Nat.one_pos)))

theorem pay_at (x : Vec Ideal S4096x4096 .fp8e4m3) (w : Vec Ideal S4096x2048 .fp8e4m3) (a b : Vec Ideal S1 .f32) (j : S4096x2048.Idx) :
    k0_pay1 (F := Ideal) x w (a (Shape.Idx.first (numel1_S1.symm ▸ Nat.one_pos))) (b (Shape.Idx.first (numel1_S1.symm ▸ Nat.one_pos))) j
      = whole x w a b j := by
  unfold whole
  pointwise [k0_pay1]

theorem idx : ∀ t : Fin cfg0.N, win0_0.index t = ![0, 0] ∧ win0_1.index t = ![0, 0] ∧ win0_2.index t = ![0] ∧ win0_3.index t = ![0]
    ∧ win0_4.index t = ![0, 0] :=
  (by decide +kernel : ∀ t : Fin grid0.N, _)

theorem iblk0 (c : Dev nD) : iblk m c 0 t0_0 = m ((c : Thread nD τ).loc main_arg0) := by
  blk_ext! [iblk, V, idx t0_0]
theorem iblk1 (c : Dev nD) : iblk m c 1 t0_0 = m ((c : Thread nD τ).loc main_arg1) := by
  blk_ext! [iblk, V, idx t0_0]
theorem iblk2 (c : Dev nD) : iblk m c 2 t0_0 = m ((c : Thread nD τ).loc main_arg2) := by
  blk_ext! [iblk, V, idx t0_0]
theorem iblk3 (c : Dev nD) : iblk m c 3 t0_0 = m ((c : Thread nD τ).loc main_arg3) := by
  blk_ext! [iblk, V, idx t0_0]

theorem final (c : Dev nD) : (dats m 0 c).arrAt 4 cfg0.N = whole (m ((c : Thread nD τ).loc main_arg0)) (m ((c : Thread nD τ).loc main_arg1))
    (m ((c : Thread nD τ).loc main_arg2)) (m ((c : Thread nD τ).loc main_arg3)) := by
  refine (dats m 0 c).arrAt_eq_of_after_last 4 t0_0 (by decide +kernel) _ fun j => ?_
  blk_simp
  rw [after0_4]
  unfold outsAt0
  frame_out
  rw [iblk0, iblk1, iblk2, iblk3]
  rw [read_unread_whole, read_unread_whole, read_unread_whole, read_unread_whole]
  exact pay_at _ _ _ _ j

end Cert.RingK.Ref
end
-- ==== Proof.Value.lean ====
/-
# The kernel's result on every device is the reference's
-/
module

public import proofs.«01_k».proof.Defs
public import proofs.«01_k».proof.Proof.Gen.Kernel.Points
public import proofs.«01_k».proof.Proof.Launch
public import proofs.«01_k».proof.Proof.Pays
public import proofs.«01_k».proof.Proof.RefValue

@[expose] public section

noncomputable section

namespace Cert.RingK

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-! ## The blocks the call stages -/

theorem idx : ∀ t : Fin cfg0.N, win0_0.index t = ![0, 0] ∧ win0_1.index t = ![0, 0] ∧ win0_2.index t = ![0] :=
  (by decide +kernel : ∀ t : Fin grid0.N, _)

theorem Xm_eq (c : Dev nD) : Xm m c = m ((c : Thread nD τ).loc main_arg0) := by
  have h : iblk m c 0 t0_0 = V m c main_arg0 := by blk_ext! [iblk, idx t0_0]
  exact h.trans (V_main_arg0 m c)
theorem Wm_eq (c : Dev nD) : Wm m c = m ((c : Thread nD τ).loc main_arg1) := by
  have h : iblk m c 1 t0_0 = V m c main_arg1 := by blk_ext! [iblk, idx t0_0]
  exact h.trans (V_main_arg1 m c)

/-- The host's operation before the call: the product of the two scales. -/
theorem V_scale (c : Dev nD) : V m c main_v1 = (mulf (m ((c : Thread nD τ).loc main_arg2)) (m ((c : Thread nD τ).loc main_arg3)) : FVec Ideal S1 .f32) := by
  unfold V hostOps0
  simp only [List.flatten_cons, List.flatten_nil, List.append_nil, List.cons_append, List.nil_append, StableHlo.after_cons, StableHlo.after_nil]
  exact StableHlo.binary_result ..
theorem Sm_eq (c : Dev nD) : Sm m c = (mulf (m ((c : Thread nD τ).loc main_arg2)) (m ((c : Thread nD τ).loc main_arg3)) : FVec Ideal S1 .f32) := by
  have h : iblk m c 2 t0_0 = V m c main_v1 := by blk_ext! [iblk, idx t0_0]
  exact h.trans (V_scale m c)

/-! ## The sum over the whole contracted axis, in four blocks -/

theorem blk_lt (d : Fin 4) (i : Fin 1024) : d.val * 1024 + i.val < 4096 := by have := d.isLt; have := i.isLt; omega

theorem sum_blocks (f : Fin 4096 → EReal) :
    ∑ k, f k = ∑ d : Fin 4, ∑ j : Fin 1024, f ⟨d.val * 1024 + j.val, by have := d.isLt; have := j.isLt; omega⟩ := by
  rw [← Fintype.sum_prod_type']
  refine (Fintype.sum_equiv (finProdFinEquiv (m := 4) (n := 1024)) _ _ fun p => ?_).symm
  refine congrArg f (Fin.ext ?_)
  show p.1.val * 1024 + p.2.val = p.2.val + 1024 * p.1.val
  omega

/-- The four devices in the order their parts arrive in, on the two halves. -/
theorem sum_ring (g : Dev nD → EReal) (c : Dev nD) : g c + g (prv c) + g (prv (prv c)) + g (nxt c) = ∑ d : Fin 4, g d := by
  rw [Fin.sum_univ_four]
  fin_cases c
  · show g 0 + g 3 + g 2 + g 1 = g 0 + g 1 + g 2 + g 3; ac_rfl
  · show g 1 + g 0 + g 3 + g 2 = g 0 + g 1 + g 2 + g 3; ac_rfl
  · show g 2 + g 1 + g 0 + g 3 = g 0 + g 1 + g 2 + g 3; ac_rfl
  · show g 3 + g 2 + g 1 + g 0 = g 0 + g 1 + g 2 + g 3; ac_rfl
theorem sum_ring' (g : Dev nD → EReal) (c : Dev nD) : g c + g (nxt c) + g (prv (prv c)) + g (prv c) = ∑ d : Fin 4, g d := by
  rw [← sum_ring g c]; ac_rfl

section Final
variable (x : S4096x2048.Idx → EReal)
variable (m' : (ℓ : Loc Cert.ReferenceIdeal.nD Cert.ReferenceIdeal.τ Cert.ReferenceIdeal.sig) → Buf (Elt Ideal) ℓ)

/-- What every device holds in the end is the reference's array. -/
theorem Om_eq (A : Cert.ReferenceIdeal.S4096x4096.Idx → EReal) (B : Cert.ReferenceIdeal.S4096x2048.Idx → EReal)
    (a b : Cert.ReferenceIdeal.S1.Idx → EReal)
    (hx : ∀ c : Dev nD, m ((c : Thread nD τ).loc main_arg0) = Layout.block ⟨2, ![4096, 1024]⟩ ⟨2, ![4096, 4096]⟩ 1 4 c A)
    (hw : ∀ c : Dev nD, m ((c : Thread nD τ).loc main_arg1) = Layout.block ⟨2, ![1024, 2048]⟩ ⟨2, ![4096, 2048]⟩ 0 4 c B)
    (ha : ∀ c : Dev nD, m ((c : Thread nD τ).loc main_arg2) = a)
    (hb : ∀ c : Dev nD, m ((c : Thread nD τ).loc main_arg3) = b) (c : Dev nD) :
    Om m c = Ref.whole A B a b := by
  funext j
  obtain ⟨r, q, rfl⟩ : ∃ (r : Fin 4096) (q : Fin 2048), j = ix2 (n0 := 4096) (n1 := 2048) r q :=
    ⟨j 0, j 1, by funext i; fin_cases i <;> rfl⟩
  have hp : ∀ d : Dev nD, part (Xm m) (Wm m) d r q =
      ∑ i : Fin 1024, A (ix2 (n0 := 4096) (n1 := 4096) r ⟨d.val * 1024 + i.val, blk_lt d i⟩)
        * B (ix2 (n0 := 4096) (n1 := 2048) ⟨d.val * 1024 + i.val, blk_lt d i⟩ q) := by
    intro d
    unfold part
    rw [Xm_eq, Wm_eq, hx d, hw d]
    refine Finset.sum_congr rfl fun i _ => congrArg₂ (fun u v => A u * B v) ?_ ?_
    · funext e; fin_cases e <;> rfl
    · funext e; fin_cases e <;> rfl
  have hs : scal (Sm m c) = a (Shape.Idx.first (s := Cert.ReferenceIdeal.S1) (numel1_S1.symm ▸ Nat.one_pos))
      * b (Shape.Idx.first (s := Cert.ReferenceIdeal.S1) (numel1_S1.symm ▸ Nat.one_pos)) := by
    rw [scal_eq _ (Shape.Idx.first (numel1_S1.symm ▸ Nat.one_pos)), Sm_eq, ha, hb]
    rfl
  unfold Om
  rw [out_at, hs]
  unfold Ref.whole
  rw [sum_blocks, sum_ring (fun d => part (Xm m) (Wm m) d r q) c, sum_ring' (fun d => part (Xm m) (Wm m) d r q) c, ite_self]
  exact congrArg (· * _) (Finset.sum_congr rfl fun d _ => hp d)
end Final

end Cert.RingK

namespace Cert.RingK
open Idealize.ShloMosaic Idealize.ShloMosaic.TcCoe Idealize.SL.Sem

theorem algebraic : Cert.algebraic_KernelIdeal_ReferenceIdeal := by
  intro m g m' g' _ h
  refine ⟨_, (θ_run _ _ _).mono (fun r hr c => ⟨(hr.1 c).2.trans
    (Om_eq m _ _ _ _ (fun c => (h c).1) (fun c => (h c).2.1) (fun c => (h c).2.2.1) (fun c => (h c).2.2.2) c), (hr.1 c).1⟩) (run_main m g),
    (θ_run _ _ _).mono (fun r hr => ⟨(hr 0).1.trans (Ref.final m' 0), (hr 0).2⟩) (Cert.ReferenceIdeal.Value.run_blocks m' g')⟩

end Cert.RingK
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel ends with its arguments unchanged and its counters at zero, read at floats or at their ideal. -/
theorem frame_ideal : Cert.quiescent_KernelIdeal := fun m ρ _ =>
  (θ_run Cert.KernelIdeal.defs _ _).mono (fun _ h => ⟨fun c => (h.1 c).1, h.2⟩) (Cert.RingK.run_main (F := Ideal) m ρ)
/-- The two programs have the same text, so the same table of bodies. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl
  | ⟨n + 1, h⟩, _ => exact absurd h (Nat.not_lt.2 (Nat.le_add_left _ _))
theorem defs_eq : @Cert.Kernel.defs Bits _ _ = @Cert.KernelIdeal.defs Bits _ _ := congrArg (Pipeline.defs Cert.Kernel.pcfgs) bodies_eq
theorem frame_kernel : Cert.quiescent_Kernel := fun m ρ _ => by
  rw [defs_eq]
  exact (θ_run Cert.KernelIdeal.defs _ _).mono (fun _ h => ⟨fun c => (h.1 c).1, h.2⟩) (Cert.RingK.run_main (F := Bits) m ρ)
theorem frame_reference : Cert.quiescent_ReferenceIdeal := fun m ρ _ => Cert.ReferenceIdeal.Gen.frame m ρ

theorem claim : Cert.Claim := ⟨Cert.Kernel.Gen.facts, Cert.KernelIdeal.Gen.facts, Cert.ReferenceIdeal.Gen.facts, frame_kernel, frame_ideal, frame_reference, trivial, Cert.RingK.algebraic⟩

end Cert.Proof

end
